-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spread_rows [hPre_spread_rows : Cert.Pre_spread_rows.Facts] (m : (ℓ : Loc Cert.KernelIdeal.nD Cert.KernelIdeal.τ Cert.KernelIdeal.sig) → Buf (Elt Ideal) ℓ) : Prop :=
  ∀ c : Dev Cert.KernelIdeal.nD,
    (Cert.Pre_spread_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread_rows [hPre_spread_rows : Cert.Pre_spread_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_spread_rows [hKernelIdeal : Cert.KernelIdeal.Facts] [hPre_spread_rows : Cert.Pre_spread_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_spread_rows [hReferenceIdeal : Cert.ReferenceIdeal.Facts] [hPre_spread_rows : Cert.Pre_spread_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_spread_rows [hKernelIdeal : Cert.KernelIdeal.Facts] [hReferenceIdeal : Cert.ReferenceIdeal.Facts] [hPre_spread_rows : Cert.Pre_spread_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_spread_rows : Cert.Pre_spread_rows.Facts),
    quiescent_Kernel (hKernel := hKernel)
    ∧ quiescent_KernelIdeal (hKernelIdeal := hKernelIdeal)
    ∧ quiescent_KernelIdeal_pre_spread_rows (hKernelIdeal := hKernelIdeal) (hPre_spread_rows := hPre_spread_rows)
    ∧ quiescent_ReferenceIdeal (hReferenceIdeal := hReferenceIdeal)
    ∧ quiescent_ReferenceIdeal_pre_spread_rows (hReferenceIdeal := hReferenceIdeal) (hPre_spread_rows := hPre_spread_rows)
    ∧ preserves_Kernel_KernelIdeal
    ∧ algebraic_KernelIdeal_ReferenceIdeal_pre_spread_rows (hKernelIdeal := hKernelIdeal) (hReferenceIdeal := hReferenceIdeal) (hPre_spread_rows := hPre_spread_rows)
-- ==== Pre_spread_rows.lean ====
abbrev S10000x256 : Shape := ⟨2, ![10000, 256]⟩
abbrev S256 : Shape := ⟨1, ![256]⟩
abbrev S1x256 : Shape := ⟨2, ![1, 256]⟩
abbrev S_ : Shape := ⟨0, ![]⟩
abbrev S10000 : Shape := ⟨1, ![10000]⟩
abbrev S10000x1 : Shape := ⟨2, ![10000, 1]⟩
abbrev S256x10000 : Shape := ⟨2, ![256, 10000]⟩
abbrev S10000x10000 : Shape := ⟨2, ![10000, 10000]⟩
abbrev S10000x34 : Shape := ⟨2, ![10000, 34]⟩
abbrev S34 : Shape := ⟨1, ![34]⟩
abbrev S1x34 : Shape := ⟨2, ![1, 34]⟩
abbrev S34x1 : Shape := ⟨2, ![34, 1]⟩
abbrev S34x34 : Shape := ⟨2, ![34, 34]⟩
abbrev S10000x34x1 : Shape := ⟨3, ![10000, 34, 1]⟩
abbrev S10000x1x34 : Shape := ⟨3, ![10000, 1, 34]⟩
abbrev S10000x34x34 : Shape := ⟨3, ![10000, 34, 34]⟩
abbrev S1x34x34 : Shape := ⟨3, ![1, 34, 34]⟩
abbrev S10000x33 : Shape := ⟨2, ![10000, 33]⟩
abbrev S10000x31 : Shape := ⟨2, ![10000, 31]⟩

class Facts : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  reducesTo_S10000x256_S10000_d1 : S10000x256.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  transposes_S10000x256_S256x10000_1_0 : S10000x256.Transposes [1, 0] S256x10000
  sliceFits_S10000x10000_S10000x34 : S10000x10000.Slices (fun _ => 0) S10000x34
  bcast_S_S10000x34 : S_.BroadcastsInDim S10000x34 (![] : Fin 0 → Fin S10000x34.rank)
  bcast_S34_S1x34_1 : S34.BroadcastsInDim S1x34 (![1] : Fin 1 → Fin S1x34.rank)
  bcast_S34_S34x1_0 : S34.BroadcastsInDim S34x1 (![0] : Fin 1 → Fin S34x1.rank)
  bcast_S1x34_S34x34_0_1 : S1x34.BroadcastsInDim S34x34 (![0, 1] : Fin 2 → Fin S34x34.rank)
  bcast_S34x1_S34x34_0_1 : S34x1.BroadcastsInDim S34x34 (![0, 1] : Fin 2 → Fin S34x34.rank)
  bcast_S10000x34_S10000x34x1_0_1 : S10000x34.BroadcastsInDim S10000x34x1 (![0, 1] : Fin 2 → Fin S10000x34x1.rank)
  bcast_S10000x34_S10000x1x34_0_2 : S10000x34.BroadcastsInDim S10000x1x34 (![0, 2] : Fin 2 → Fin S10000x1x34.rank)
  bcast_S10000x34x1_S10000x34x34_0_1_2 : S10000x34x1.BroadcastsInDim S10000x34x34 (![0, 1, 2] : Fin 3 → Fin S10000x34x34.rank)
  bcast_S10000x1x34_S10000x34x34_0_1_2 : S10000x1x34.BroadcastsInDim S10000x34x34 (![0, 1, 2] : Fin 3 → Fin S10000x34x34.rank)
  bcast_S34x34_S1x34x34_1_2 : S34x34.BroadcastsInDim S1x34x34 (![1, 2] : Fin 2 → Fin S1x34x34.rank)
  bcast_S1x34x34_S10000x34x34_0_1_2 : S1x34x34.BroadcastsInDim S10000x34x34 (![0, 1, 2] : Fin 3 → Fin S10000x34x34.rank)
  bcast_S_S10000x34x34 : S_.BroadcastsInDim S10000x34x34 (![] : Fin 0 → Fin S10000x34x34.rank)
  reducesTo_S10000x34x34_S10000x34_d2 : S10000x34x34.ReducesTo [2] S10000x34
  slices_S10000x34_S10000x33_0_1 : S10000x34.Slices ![0, 1] S10000x33
  slices_S10000x34_S10000x33_0_0 : S10000x34.Slices ![0, 0] S10000x33
  concatenates_S10000x1_S10000x33_S10000x34_d1 : Shape.Concatenates [S10000x1, S10000x33] S10000x34 1
  reducesTo_S10000x34_S10000_d1 : S10000x34.ReducesTo [1] S10000
  slices_S10000x34_S10000x1_0_31 : S10000x34.Slices ![0, 31] S10000x1
  shapeCasts_S10000x1_S10000 : S10000x1.ShapeCasts S10000
  bcast_S_S10000 : S_.BroadcastsInDim S10000 (![] : Fin 0 → Fin S10000.rank)
  slices_S10000x34_S10000x1_0_30 : S10000x34.Slices ![0, 30] S10000x1
  slices_S10000x34_S10000x31_0_0 : S10000x34.Slices ![0, 0] S10000x31
  bcast_S_S10000x31 : S_.BroadcastsInDim S10000x31 (![] : Fin 0 → Fin S10000x31.rank)
  bcast_S10000x1_S10000x31_0_1 : S10000x1.BroadcastsInDim S10000x31 (![0, 1] : Fin 2 → Fin S10000x31.rank)
  dot_S10000x256_S256x10000_S10000x10000_1_0_0_1_n_n_wf : DotDims.WF S10000x256 S256x10000 S10000x10000 [1] [0] [0] [1] [] []

variable [Facts]

def dot_S10000x256_S256x10000_S10000x10000_1_0_0_1_n_n : DotDims S10000x256 S256x10000 S10000x10000 where
  lhsContracting := [1]
  rhsContracting := [0]
  lhsNonContracting := [0]
  rhsNonContracting := [1]
  lhsBatch := []
  rhsBatch := []
  wf := dot_S10000x256_S256x10000_S10000x10000_1_0_0_1_n_n_wf
def fn_relu {F : FTy → Type} [FloatOps F] (arg0 : FVec F S10000x256 .f32) : FVec F S10000x256 .f32 :=
  let cst : FVec F S_ .f32 := constant S_ .f32 0x00000000#32
  let v0 : FVec F S10000x256 .f32 := broadcastInDim S10000x256 ![] bcast_S_S10000x256 cst
  let v1 : FVec F S10000x256 .f32 := maximumf arg0 v0
  v1

def fn_norm {F : FTy → Type} [FloatOps F] (arg0 : FVec F S10000x256 .f32) : FVec F S10000x1 .f32 :=
  let v0 : FVec F S10000x256 .f32 := mulf arg0 arg0
  let cst : FVec F S_ .f32 := constant S_ .f32 0x00000000#32
  let v1 : FVec F S10000 .f32 := (fun x v => Host.reduceAdd x v reducesTo_S10000x256_S10000_d1 h_S_) v0 cst
  let v2 : FVec F S10000x1 .f32 := broadcastInDim S10000x1 ![0] bcast_S10000_S10000x1_0 v1
  let v3 : FVec F S10000x1 .f32 := Host.sqrt v2
  v3

def fn_where {F : FTy → Type} [FloatOps F] (arg0 : IVec S10000x34x34 1) (arg1 : FVec F S_ .f32) (arg2 : FVec F S_ .f32) : FVec F S10000x34x34 .f32 :=
  let v0 : FVec F S10000x34x34 .f32 := broadcastInDim S10000x34x34 ![] bcast_S_S10000x34x34 arg1
  let v1 : FVec F S10000x34x34 .f32 := broadcastInDim S10000x34x34 ![] bcast_S_S10000x34x34 arg2
  let v2 : FVec F S10000x34x34 .f32 := select arg0 v0 v1
  v2

def fn_where_0 {F : FTy → Type} [FloatOps F] (arg0 : IVec S10000x34 1) (arg1 : FVec F S_ .f32) (arg2 : FVec F S_ .f32) : FVec F S10000x34 .f32 :=
  let v0 : FVec F S10000x34 .f32 := broadcastInDim S10000x34 ![] bcast_S_S10000x34 arg1
  let v1 : FVec F S10000x34 .f32 := broadcastInDim S10000x34 ![] bcast_S_S10000x34 arg2
  let v2 : FVec F S10000x34 .f32 := select arg0 v0 v1
  v2

def fn_part3 {F : FTy → Type} [FloatOps F] (main_values : FVec F S10000x34 .f32) (main_v32 : FVec F S10000x34 .f32) (main_v56 : IVec S10000 1) (main_v57 : FVec F S10000x31 .f32) : IVec S10000x31 1 :=
  let main_cst_10 : FVec F S_ .f32 := constant S_ .f32 0x00000000#32
  let main_v58 : FVec F S10000x31 .f32 := broadcastInDim S10000x31 ![] bcast_S_S10000x31 main_cst_10
  let main_v59 : IVec S10000x31 1 := cmpf .ole main_v57 main_v58
  let main_v60 : FVec F S10000x31 .f32 := (extractStridedSlice S10000x31 ![0, 0] · slices_S10000x34_S10000x31_0_0) main_v32
  let main_cst_11 : FVec F S_ .f32 := constant S_ .f32 0x40800000#32
  let main_v61 : FVec F S10000x31 .f32 := broadcastInDim S10000x31 ![] bcast_S_S10000x31 main_cst_11
  let main_v62 : IVec S10000x31 1 := cmpf .olt main_v60 main_v61
  let main_v63 : FVec F S10000x31 .f32 := (extractStridedSlice S10000x31 ![0, 0] · slices_S10000x34_S10000x31_0_0) main_values
  let main_cst_12 : FVec F S_ .f32 := constant S_ .f32 0x0DA24260#32
  let main_v64 : FVec F S10000x31 .f32 := broadcastInDim S10000x31 ![] bcast_S_S10000x31 main_cst_12
  let main_v65 : IVec S10000x31 1 := cmpf .oge main_v63 main_v64
  let main_v66 : IVec S10000x31 1 := andi main_v62 main_v65
  let main_v67 : IVec S10000x31 1 := ori main_v59 main_v66
  let main_v68 : IVec S10000x1 1 := broadcastInDim S10000x1 ![0] bcast_S10000_S10000x1_0 main_v56
  let main_v69 : IVec S10000x31 1 := broadcastInDim S10000x31 ![0, 1] bcast_S10000x1_S10000x31_0_1 main_v68
  let main_v70 : IVec S10000x31 1 := andi main_v67 main_v69
  main_v70

def fn_part2 {F : FTy → Type} [FloatOps F] (main_values : FVec F S10000x34 .f32) (main_v32 : FVec F S10000x34 .f32) (main_v37 : IVec S10000x34 1) (main_v38 : FVec F S10000x34 .f32) : IVec S10000x31 1 :=
  let main_v39 : IVec S10000x34 1 := cmpf .oge main_v32 main_v38
  let main_v40 : IVec S10000x34 1 := ori main_v39 main_v37
  let main_cst_5 : FVec F S_ .f32 := constant S_ .f32 0x3F800000#32
  let main_cst_6 : FVec F S_ .f32 := constant S_ .f32 0x00000000#32
  let main_v41 : FVec F S10000x34 .f32 := fn_where_0 (F := F) main_v40 main_cst_5 main_cst_6
  let main_v42 : FVec F S10000x34 .f32 := id main_v41
  let main_cst_7 : FVec F S_ .f32 := constant S_ .f32 0x00000000#32
  let main_v43 : FVec F S10000 .f32 := (fun x v => Host.reduceAdd x v reducesTo_S10000x34_S10000_d1 h_S_) main_v42 main_cst_7
  let main_v44 : FVec F S10000x1 .f32 := (extractStridedSlice S10000x1 ![0, 31] · slices_S10000x34_S10000x1_0_31) main_values
  let main_v45 : FVec F S10000 .f32 := shapeCast S10000 main_v44 shapeCasts_S10000x1_S10000
  let main_cst_8 : FVec F S_ .f32 := constant S_ .f32 0x00000000#32
  let main_v46 : FVec F S10000 .f32 := broadcastInDim S10000 ![] bcast_S_S10000 main_cst_8
  let main_v47 : IVec S10000 1 := cmpf .ole main_v45 main_v46
  let main_v48 : FVec F S10000x1 .f32 := (extractStridedSlice S10000x1 ![0, 30] · slices_S10000x34_S10000x1_0_30) main_values
  let main_v49 : FVec F S10000 .f32 := shapeCast S10000 main_v48 shapeCasts_S10000x1_S10000
  let main_v50 : FVec F S10000x1 .f32 := (extractStridedSlice S10000x1 ![0, 31] · slices_S10000x34_S10000x1_0_31) main_values
  let main_v51 : FVec F S10000 .f32 := shapeCast S10000 main_v50 shapeCasts_S10000x1_S10000
  let main_v52 : IVec S10000 1 := cmpf .ogt main_v49 main_v51
  let main_cst_9 : FVec F S_ .f32 := constant S_ .f32 0x40400000#32
  let main_v53 : FVec F S10000 .f32 := broadcastInDim S10000 ![] bcast_S_S10000 main_cst_9
  let main_v54 : IVec S10000 1 := cmpf .ole main_v43 main_v53
  let main_v55 : IVec S10000 1 := andi main_v52 main_v54
  let main_v56 : IVec S10000 1 := ori main_v47 main_v55
  let main_v57 : FVec F S10000x31 .f32 := (extractStridedSlice S10000x31 ![0, 0] · slices_S10000x34_S10000x31_0_0) main_values
  fn_part3 (F := F) main_values main_v32 main_v56 main_v57

def fn_part1 {F : FTy → Type} [FloatOps F] (main_values : FVec F S10000x34 .f32) (main_v15 : IVec S10000x34 32) (main_v18 : IVec S34x1 32) (main_v19 : IVec S34x34 32) : IVec S10000x31 1 :=
  let main_v20 : IVec S34x34 32 := broadcastInDim S34x34 ![0, 1] bcast_S34x1_S34x34_0_1 main_v18
  let main_v21 : IVec S34x34 1 := cmpi .slt main_v19 main_v20
  let main_v22 : IVec S10000x34x1 32 := broadcastInDim S10000x34x1 ![0, 1] bcast_S10000x34_S10000x34x1_0_1 main_v15
  let main_v23 : IVec S10000x1x34 32 := broadcastInDim S10000x1x34 ![0, 2] bcast_S10000x34_S10000x1x34_0_2 main_v15
  let main_v24 : IVec S10000x34x34 32 := broadcastInDim S10000x34x34 ![0, 1, 2] bcast_S10000x34x1_S10000x34x34_0_1_2 main_v22
  let main_v25 : IVec S10000x34x34 32 := broadcastInDim S10000x34x34 ![0, 1, 2] bcast_S10000x1x34_S10000x34x34_0_1_2 main_v23
  let main_v26 : IVec S10000x34x34 1 := cmpi .eq main_v24 main_v25
  let main_v27 : IVec S1x34x34 1 := broadcastInDim S1x34x34 ![1, 2] bcast_S34x34_S1x34x34_1_2 main_v21
  let main_v28 : IVec S10000x34x34 1 := broadcastInDim S10000x34x34 ![0, 1, 2] bcast_S1x34x34_S10000x34x34_0_1_2 main_v27
  let main_v29 : IVec S10000x34x34 1 := andi main_v26 main_v28
  let main_cst_0 : FVec F S_ .f32 := constant S_ .f32 0x3F800000#32
  let main_cst_1 : FVec F S_ .f32 := constant S_ .f32 0x00000000#32
  let main_v30 : FVec F S10000x34x34 .f32 := fn_where (F := F) main_v29 main_cst_0 main_cst_1
  let main_v31 : FVec F S10000x34x34 .f32 := id main_v30
  let main_cst_2 : FVec F S_ .f32 := constant S_ .f32 0x00000000#32
  let main_v32 : FVec F S10000x34 .f32 := (fun x v => Host.reduceAdd x v reducesTo_S10000x34x34_S10000x34_d2 h_S_) main_v31 main_cst_2
  let main_c_3 : IVec S_ 1 := constantI S_ 1 0#1
  let main_v33 : IVec S10000x1 1 := broadcastInDim S10000x1 ![] bcast_S_S10000x1 main_c_3
  let main_v34 : FVec F S10000x33 .f32 := (extractStridedSlice S10000x33 ![0, 1] · slices_S10000x34_S10000x33_0_1) main_values
  let main_v35 : FVec F S10000x33 .f32 := (extractStridedSlice S10000x33 ![0, 0] · slices_S10000x34_S10000x33_0_0) main_values
  let main_v36 : IVec S10000x33 1 := cmpf .oeq main_v34 main_v35
  let main_v37 : IVec S10000x34 1 := (fun a b => concatenate S10000x34 1 [⟨S10000x1, a⟩, ⟨S10000x33, b⟩] concatenates_S10000x1_S10000x33_S10000x34_d1) main_v33 main_v36
  let main_cst_4 : FVec F S_ .f32 := constant S_ .f32 0x40000000#32
  let main_v38 : FVec F S10000x34 .f32 := broadcastInDim S10000x34 ![] bcast_S_S10000x34 main_cst_4
  fn_part2 (F := F) main_values main_v32 main_v37 main_v38

def fn {F : FTy → Type} [FloatOps F] (main_arg0 : FVec F S10000x256 .f32) (main_arg1 : FVec F S256 .f32) (main_arg2 : FVec F S256 .f32) : IVec S10000x31 1 :=
  let main_v0 : FVec F S1x256 .f32 := broadcastInDim S1x256 ![1] bcast_S256_S1x256_1 main_arg1
  let main_v1 : FVec F S10000x256 .f32 := broadcastInDim S10000x256 ![0, 1] bcast_S1x256_S10000x256_0_1 main_v0
  let main_v2 : FVec F S10000x256 .f32 := mulf main_arg0 main_v1
  let main_v3 : FVec F S10000x256 .f32 := fn_relu (F := F) main_v2
  let main_v4 : FVec F S1x256 .f32 := broadcastInDim S1x256 ![1] bcast_S256_S1x256_1 main_arg2
  let main_v5 : FVec F S10000x256 .f32 := broadcastInDim S10000x256 ![0, 1] bcast_S1x256_S10000x256_0_1 main_v4
  let main_v6 : FVec F S10000x256 .f32 := mulf main_v3 main_v5
  let main_v7 : FVec F S10000x1 .f32 := fn_norm (F := F) main_v6
  let main_cst : FVec F S_ .f32 := constant S_ .f32 0x2B8CBCCC#32
  let main_v8 : FVec F S10000x1 .f32 := broadcastInDim S10000x1 ![] bcast_S_S10000x1 main_cst
  let main_v9 : FVec F S10000x1 .f32 := maximumf main_v7 main_v8
  let main_v10 : FVec F S10000x256 .f32 := broadcastInDim S10000x256 ![0, 1] bcast_S10000x1_S10000x256_0_1 main_v9
  let main_v11 : FVec F S10000x256 .f32 := Host.divf main_v6 main_v10
  let main_v12 : FVec F S256x10000 .f32 := (transpose S256x10000 [1, 0] · transposes_S10000x256_S256x10000_1_0) main_v11
  let main_v13 : FVec F S10000x10000 .f32 := (fun l r => Host.dotGeneral dot_S10000x256_S256x10000_S10000x10000_1_0_0_1_n_n none l r) main_v11 main_v12
  let main_values : FVec F S10000x34 .f32 := (fun x => (Host.topK S10000x34 1 (FloatOps.cmpfTotal .gt) x sliceFits_S10000x10000_S10000x34).1) main_v13
  let main_indices : IVec S10000x34 32 := (fun x => (Host.topK S10000x34 1 (FloatOps.cmpfTotal .gt) x sliceFits_S10000x10000_S10000x34).2) main_v13
  let main_c : IVec S_ 32 := constantI S_ 32 128#32
  let main_v14 : IVec S10000x34 32 := broadcastInDim S10000x34 ![] bcast_S_S10000x34 main_c
  let main_v15 : IVec S10000x34 32 := Host.remsi main_indices main_v14
  let main_v16 : IVec S34 32 := iotaInDim S34 32 0
  let main_v17 : IVec S1x34 32 := broadcastInDim S1x34 ![1] bcast_S34_S1x34_1 main_v16
  let main_v18 : IVec S34x1 32 := broadcastInDim S34x1 ![0] bcast_S34_S34x1_0 main_v16
  let main_v19 : IVec S34x34 32 := broadcastInDim S34x34 ![0, 1] bcast_S1x34_S34x34_0_1 main_v17
  fn_part1 (F := F) main_values main_v15 main_v18 main_v19
-- ==== Kernel.lean ====
abbrev S10000x256 : Shape := ⟨2, ![10000, 256]⟩
abbrev S256 : Shape := ⟨1, ![256]⟩
abbrev S1x256 : Shape := ⟨2, ![1, 256]⟩
abbrev S10000 : Shape := ⟨1, ![10000]⟩
abbrev S10000x1 : Shape := ⟨2, ![10000, 1]⟩
abbrev S10000x10000 : Shape := ⟨2, ![10000, 10000]⟩
abbrev S400x10000 : Shape := ⟨2, ![400, 10000]⟩
abbrev S400x256 : Shape := ⟨2, ![400, 256]⟩
abbrev S400x128 : Shape := ⟨2, ![400, 128]⟩
abbrev S400x16 : Shape := ⟨2, ![400, 16]⟩
abbrev S400x112 : Shape := ⟨2, ![400, 112]⟩
abbrev S256x400 : Shape := ⟨2, ![256, 400]⟩
abbrev S400 : Shape := ⟨1, ![400]⟩
abbrev S1x400 : Shape := ⟨2, ![1, 400]⟩
abbrev S400x512 : Shape := ⟨2, ![400, 512]⟩
abbrev S512x400 : Shape := ⟨2, ![512, 400]⟩
abbrev S400x1 : Shape := ⟨2, ![400, 1]⟩

abbrev nBuf : Space → Nat
  | .hbm => 7
  | .vmem => 7
  | .smem => 0
  | _ => 0

abbrev bufTy : (tb : Table) → Fin (tcTables nBuf tb) → BufTy
  | .hbm, ⟨0, _⟩ => ⟨S10000x256, .f32⟩
  | .hbm, ⟨1, _⟩ => ⟨S256, .f32⟩
  | .hbm, ⟨2, _⟩ => ⟨S256, .f32⟩
  | .hbm, ⟨3, _⟩ => ⟨S1x256, .f32⟩
  | .hbm, ⟨4, _⟩ => ⟨S1x256, .f32⟩
  | .hbm, ⟨5, _⟩ => ⟨S10000x256, .f32⟩
  | .hbm, ⟨6, _⟩ => ⟨S10000x10000, .f32⟩
  | .local _ .vmem, ⟨0, _⟩ => ⟨S10000x256, .f32⟩
  | .local _ .vmem, ⟨1, _⟩ => ⟨S1x256, .f32⟩
  | .local _ .vmem, ⟨2, _⟩ => ⟨S1x256, .f32⟩
  | .local _ .vmem, ⟨3, _⟩ => ⟨S10000x256, .f32⟩
  | .local _ .vmem, ⟨4, _⟩ => ⟨S10000x256, .f32⟩
  | .local _ .vmem, ⟨5, _⟩ => ⟨S400x10000, .f32⟩
  | .local _ .vmem, ⟨6, _⟩ => ⟨S400x10000, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def k1_off1 (i : grid1.Coords) : Fin 2 → Nat :=
  let arg0 : BitVec 32 := BitVec.ofNat 32 (i 0).val
  let c400_i32 : BitVec 32 := 400#32
  let v0 : BitVec 32 := Scalar.muli arg0 c400_i32
  let v1 : Index := Scalar.indexCast v0
  let c0 : Index := 0#32
  ![v1.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S10000x256 : Shape := ⟨2, ![10000, 256]⟩
abbrev S256 : Shape := ⟨1, ![256]⟩
abbrev S1x256 : Shape := ⟨2, ![1, 256]⟩
abbrev S_ : Shape := ⟨0, ![]⟩
abbrev S10000 : Shape := ⟨1, ![10000]⟩
abbrev S10000x1 : Shape := ⟨2, ![10000, 1]⟩
abbrev S256x10000 : Shape := ⟨2, ![256, 10000]⟩
abbrev S10000x10000 : Shape := ⟨2, ![10000, 10000]⟩
abbrev S10000x31 : Shape := ⟨2, ![10000, 31]⟩
abbrev S10000x31x1 : Shape := ⟨3, ![10000, 31, 1]⟩
abbrev S10000x31x2 : Shape := ⟨3, ![10000, 31, 2]⟩

abbrev nBuf : Space → Nat
  | .hbm => 55
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S256, .f32⟩
  | .hbm, ⟨2, _⟩ => ⟨S256, .f32⟩
  | .hbm, ⟨3, _⟩ => ⟨S1x256, .f32⟩
  | .hbm, ⟨4, _⟩ => ⟨S10000x256, .f32⟩
  | .hbm, ⟨5, _⟩ => ⟨S10000x256, .f32⟩
  | .hbm, ⟨6, _⟩ => ⟨S_, .f32⟩
  | .hbm, ⟨7, _⟩ => ⟨S10000x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S10000x256, .f32⟩
  | .hbm, ⟨13, _⟩ => ⟨S_, .f32⟩
  | .hbm, ⟨14, _⟩ => ⟨S10000, .f32⟩
  | .hbm, ⟨15, _⟩ => ⟨S10000x1, .f32⟩
  | .hbm, ⟨16, _⟩ => ⟨S10000x1, .f32⟩
  | .hbm, ⟨17, _⟩ => ⟨S_, .f32⟩
  | .hbm, ⟨18, _⟩ => ⟨S10000x1, .f32⟩
  | .hbm, ⟨19, _⟩ => ⟨S10000x1, .f32⟩
  | .hbm, ⟨20, _⟩ => ⟨S10000x256, .f32⟩
  | .hbm, ⟨21, _⟩ => ⟨S10000x256, .f32⟩
  | .hbm, ⟨22, _⟩ => ⟨S256x10000, .f32⟩
  | .hbm, ⟨23, _⟩ => ⟨S10000x10000, .f32⟩
  | .hbm, ⟨24, _⟩ => ⟨S10000x31, .f32⟩
  | .hbm, ⟨25, _⟩ => ⟨S10000x31, .i32⟩
  | .hbm, ⟨26, _⟩ => ⟨S10000, .i32⟩
  | .hbm, ⟨27, _⟩ => ⟨S10000x1, .i32⟩
  | .hbm, ⟨28, _⟩ => ⟨S_, .f32⟩
  | .hbm, ⟨29, _⟩ => ⟨S10000x10000, .f32⟩
  | .hbm, ⟨30, _⟩ => ⟨S_, .i32⟩
  | .hbm, ⟨31, _⟩ => ⟨S10000x1, .i32⟩
  | .hbm, ⟨32, _⟩ => ⟨S10000x1, .i1⟩
  | .hbm, ⟨33, _⟩ => ⟨S_, .i32⟩
  | .hbm, ⟨34, _⟩ => ⟨S10000x1, .i32⟩
  | .hbm, ⟨35, _⟩ => ⟨S10000x1, .i32⟩
  | .hbm, ⟨36, _⟩ => ⟨S10000x1, .i32⟩
  | .hbm, ⟨37, _⟩ => ⟨S_, .i32⟩
  | .hbm, ⟨38, _⟩ => ⟨S10000x31, .i32⟩
  | .hbm, ⟨39, _⟩ => ⟨S10000x31, .i1⟩
  | .hbm, ⟨40, _⟩ => ⟨S_, .i32⟩
  | .hbm, ⟨41, _⟩ => ⟨S10000x31, .i32⟩
  | .hbm, ⟨42, _⟩ => ⟨S10000x31, .i32⟩
  | .hbm, ⟨43, _⟩ => ⟨S10000x31, .i32⟩
  | .hbm, ⟨44, _⟩ => ⟨S10000x31, .i32⟩
  | .hbm, ⟨45, _⟩ => ⟨S10000x31x1, .i32⟩
  | .hbm, ⟨46, _⟩ => ⟨S10000x31x1, .i32⟩
  | .hbm, ⟨47, _⟩ => ⟨S10000x31x2, .i32⟩
  | .hbm, ⟨48, _⟩ => ⟨S_, .f32⟩
  | .hbm, ⟨49, _⟩ => ⟨S10000x31, .f32⟩
  | .hbm, ⟨50, _⟩ => ⟨S10000x10000, .f32⟩
  | .hbm, ⟨51, _⟩ => ⟨S10000x10000, .f32⟩
  | .hbm, ⟨52, _⟩ => ⟨S_, .f32⟩
  | .hbm, ⟨53, _⟩ => ⟨S10000x10000, .f32⟩
  | .hbm, ⟨54, _⟩ => ⟨S10000x10000, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call2_cst : Ref sig .tc := ⟨.hbm, 52, rfl⟩
abbrev main_call2_v0 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Proof.Lanes.lean ====
/-
  The running top four of a lane. Per lane the kernel holds four values in descending order and merges in
  the row's 79 column slices: the first 76 four at a time, the last three one at a time. The merge is written
  here once, over any two operations standing for maximum and minimum, so that it reads both on whole
  vectors (where the kernel runs it) and on the values of one lane (where its meaning is proved).
-/
module

public import proofs.«01_k».proof.Proof.Gen.KernelIdeal.Frame

@[expose] public section

namespace Cert.Proof.Lanes

/-- Four values held in a lane, greatest first. -/
structure Quad (α : Type) where
  m1 : α
  m2 : α
  m3 : α
  m4 : α

variable {α : Type} (mx mn : α → α → α)

/-- The greatest, second, third and least of four values, by the kernel's sorting network. -/
def srt1 (a b c d : α) : α := mx (mx a b) (mx c d)
/-- The second greatest of four. -/
def srt2 (a b c d : α) : α := mx (mx (mn a b) (mn c d)) (mn (mx a b) (mx c d))
/-- The third greatest of four. -/
def srt3 (a b c d : α) : α := mn (mx (mn a b) (mn c d)) (mn (mx a b) (mx c d))
/-- The least of four. -/
def srt4 (a b c d : α) : α := mn (mn a b) (mn c d)

/-- The held four against four new ones: the top half of a bitonic merge, not yet in order. -/
def top1 (q : Quad α) (a b c d : α) : α := mx q.m1 (srt4 mn a b c d)
/-- One of the four candidates the merge of a held four with a new four starts from. -/
def top2 (q : Quad α) (a b c d : α) : α := mx q.m2 (srt3 mx mn a b c d)
/-- The third of those candidates. -/
def top3 (q : Quad α) (a b c d : α) : α := mx q.m3 (srt2 mx mn a b c d)
/-- The fourth of those candidates. -/
def top4 (q : Quad α) (a b c d : α) : α := mx q.m4 (srt1 mx a b c d)

/-- The held four after four new values are merged in. -/
def merge4 (q : Quad α) (a b c d : α) : Quad α where
  m1 := mx (mx (top1 mx mn q a b c d) (top3 mx mn q a b c d)) (mx (top2 mx mn q a b c d) (top4 mx q a b c d))
  m2 := mn (mx (top1 mx mn q a b c d) (top3 mx mn q a b c d)) (mx (top2 mx mn q a b c d) (top4 mx q a b c d))
  m3 := mx (mn (top1 mx mn q a b c d) (top3 mx mn q a b c d)) (mn (top2 mx mn q a b c d) (top4 mx q a b c d))
  m4 := mn (mn (top1 mx mn q a b c d) (top3 mx mn q a b c d)) (mn (top2 mx mn q a b c d) (top4 mx q a b c d))

/-- The held four after one new value is inserted. -/
def insert1 (q : Quad α) (v : α) : Quad α where
  m1 := mx q.m1 v
  m2 := mx q.m2 (mn q.m1 v)
  m3 := mx q.m3 (mn q.m2 (mn q.m1 v))
  m4 := mx q.m4 (mn q.m3 (mn q.m2 (mn q.m1 v)))

/-- The held four after `n` groups of four of the values `p 0, p 1, …`, starting from `q`. -/
def groups (q : Quad α) (p : ℕ → α) : ℕ → Quad α
  | 0 => q
  | n + 1 => merge4 mx mn (groups q p n) (p (4 * n)) (p (4 * n + 1)) (p (4 * n + 2)) (p (4 * n + 3))

/-- The held four after all 79 values: 19 groups of four, then three single values. -/
def lanes (z : α) (p : ℕ → α) : Quad α :=
  insert1 mx mn (insert1 mx mn (insert1 mx mn (groups mx mn ⟨z, z, z, z⟩ p 19) (p 76)) (p 77)) (p 78)

/-- Groups after groups: `n` more, on the values past the first `4 k`, continue the same run. -/
theorem groups_add (q : Quad α) (p : ℕ → α) (k n : ℕ) :
    groups mx mn (groups mx mn q p k) (fun i => p (4 * k + i)) n = groups mx mn q p (k + n) := by
  induction n with
  | zero => rfl
  | succ n ih =>
    rw [← Nat.add_assoc]
    simp only [groups, ih, Nat.mul_add, Nat.add_assoc]

end Cert.Proof.Lanes
-- ==== Proof.Block.lean ====
/-
  What one block of 400 rows of the second kernel computes, written as a function of the block's
  similarities: the four held values of every lane, the start of the threshold, its three upward moves, and
  the final selection. The last theorem reads this off the recorded run of the kernel's body.
-/
module

public import proofs.«01_k».proof.Proof.Lanes

@[expose] public section

set_option maxRecDepth 16384

noncomputable section

namespace Cert.Proof.Block

open Idealize.ShloMosaic Idealize.SL.Sem Cert.KernelIdeal Cert.KernelIdeal.Gen Cert.Proof.Lanes

variable {F : FTy → Type} [FloatOps F]

/-- The 78 full slices of 128 columns lie in the block. -/
theorem slices (k : ℕ) (h : k < 78) : S400x10000.Slices ![0, 128 * k] S400x128 :=
  ⟨rfl, fun a => by
    match a with
    | ⟨0, _⟩ => show 0 + 400 ≤ 400; omega
    | ⟨1, _⟩ => show 128 * k + 128 ≤ 10000; omega⟩

/-- Slice `k` of the row: columns `128 k` to `128 k + 127`; the last one is 16 columns and a filling. -/
def slice (v : FVec F S400x10000 .f32) (k : ℕ) : FVec F S400x128 .f32 :=
  if h : k < 78 then extractStridedSlice S400x128 ![0, 128 * k] v (slices k h) else k1_pay82 v

/-- The four held values of every lane after the whole row. -/
def held (v : FVec F S400x10000 .f32) : Quad (FVec F S400x128 .f32) :=
  lanes maximumf minimumf k1_pay3 (slice v)

/-- The two greatest held values of every lane, one column per row of the block. -/
def two (v : FVec F S400x10000 .f32) : FVec F S256x400 .f32 :=
  transpose S256x400 [1, 0]
    (concatenate S400x256 1 [⟨S400x128, (held v).m1⟩, ⟨S400x128, (held v).m2⟩]
      concatenates_S400x128_S400x128_S400x256_d1)
    transposes_S400x256_p1_0_S256x400

/-- All held values of every lane, one column per row of the block. -/
def cand (v : FVec F S400x10000 .f32) : FVec F S512x400 .f32 :=
  k1_pay399 (held v).m1 (held v).m2 (held v).m3 (held v).m4

/-- The greatest entry of each column below the column's `d`. -/
def lower (u : FVec F S256x400 .f32) (d : FVec F S400 .f32) : FVec F S400 .f32 :=
  multiReduction .maximumf [0] S400
    (select (cmpf .olt u (broadcastTo S256x400 (shapeCast S1x400 d shapeCasts_S400_S1x400) broadcasts_S1x400_S256x400)) u
      (broadcast S256x400 (Scalar.ofBits .f32 0xFF61B1E6#32)))
    0xFF800000#32 reduces_S256x400_S400 (.inl rfl) rfl

/-- The greatest entry of each column, then the next distinct one, and so on. -/
def descend (u : FVec F S256x400 .f32) : ℕ → FVec F S400 .f32
  | 0 => multiReduction .maximumf [0] S400 u 0xFF800000#32 reduces_S256x400_S400 (.inl rfl) rfl
  | n + 1 => lower u (descend u n)

/-- How many entries of each column are not below `m`. -/
def countFrom (u : FVec F S512x400 .f32) (m : FVec F S1x400 .f32) : FVec F S1x400 .f32 :=
  shapeCast S1x400 (multiReduction .add [0] S400
    (select (cmpf .oge u (broadcastTo S512x400 m broadcasts_S1x400_S512x400))
      (broadcast S512x400 (Scalar.ofBits .f32 0x3F800000#32)) (broadcast S512x400 (Scalar.ofBits .f32 0x00000000#32)))
    0x00000000#32 reduces_S512x400_S400 (.inl rfl) rfl) shapeCasts_S400_S1x400

/-- The least entry of each column above `m`. -/
def above (u : FVec F S512x400 .f32) (m : FVec F S1x400 .f32) : FVec F S1x400 .f32 :=
  shapeCast S1x400 (multiReduction .minimumf [0] S400
    (select (cmpf .ogt u (broadcastTo S512x400 m broadcasts_S1x400_S512x400)) u
      (broadcast S512x400 (Scalar.ofBits .f32 0x7F61B1E6#32)))
    0x7F800000#32 reduces_S512x400_S400 (.inl rfl) rfl) shapeCasts_S400_S1x400

/-- One upward move: where more than 31 entries are kept and there is an entry above, go to it. -/
def move (u : FVec F S512x400 .f32) (m : FVec F S1x400 .f32) : FVec F S1x400 .f32 :=
  select (andi (cmpf .ogt (countFrom u m) (broadcast S1x400 (Scalar.ofBits .f32 0x41F80000#32)))
      (cmpf .olt (above u m) (broadcast S1x400 (Scalar.ofBits .f32 0x7F61B1E6#32))))
    (above u m) m

/-- The threshold of each row of the block. -/
def threshold (v : FVec F S400x10000 .f32) : FVec F S1x400 .f32 :=
  move (cand v) (move (cand v) (move (cand v) (shapeCast S1x400 (descend (two v) 30) shapeCasts_S400_S1x400)))

/-- The block's result: the similarities not below the row's threshold and not below 1e-30, else zero. -/
def result (v : FVec F S400x10000 .f32) : FVec F S400x10000 .f32 :=
  select (cmpf .oge v (broadcastTo S400x10000
      (maximumf (transpose S400x1 [1, 0] (threshold v) transposes_S1x400_p1_0_S400x1)
        (broadcast S400x1 (Scalar.ofBits .f32 0x0DA24260#32))) broadcasts_S400x1_S400x10000)) v
    (broadcast S400x10000 (Scalar.ofBits .f32 0x00000000#32))

section Run

variable (c : Dev nD) (i : grid1.Coords) (arg1 : Memref sig .tc .vmem S10000x256 .f32) (harg1 : arg1.IsWhole)
  (x0 : Vec F S10000x256 .f32)

/-- The block's similarities, as the body computes them from the rows it reads. -/
abbrev sims : FVec F S400x10000 .f32 := kernelRun1_A.sl.r c i arg1 harg1 x0

/-- The held values after the first 9 groups, by the body's record. -/
def first9 : Quad (FVec F S400x128 .f32) :=
  ⟨kernelRun1_A.sl.r_97 c i arg1 harg1 x0, kernelRun1_A.sl.r_98 c i arg1 harg1 x0,
   kernelRun1_A.sl.r_99 c i arg1 harg1 x0, kernelRun1_A.sl.r_100 c i arg1 harg1 x0⟩

/-- The kernel's held values after its first nine groups are those of `groups`. -/
theorem first9_eq : first9 c i arg1 harg1 x0
    = groups maximumf minimumf ⟨k1_pay3, k1_pay3, k1_pay3, k1_pay3⟩ (slice (sims c i arg1 harg1 x0)) 9 := by
  sl_kernel_rfl

/-- The held values after the first 17 groups, by the body's record. -/
def first17 : Quad (FVec F S400x128 .f32) :=
  ⟨kernelRun1_A.sl.r_116 c i arg1 harg1 x0, kernelRun1_A.sl.r_117 c i arg1 harg1 x0,
   kernelRun1_A.sl.r_118 c i arg1 harg1 x0, kernelRun1_A.sl.r_119 c i arg1 harg1 x0⟩

/-- Its held values after seventeen groups are those of `groups`, eight groups on. -/
theorem first17_eq : first17 c i arg1 harg1 x0
    = groups maximumf minimumf (first9 c i arg1 harg1 x0) (fun k => slice (sims c i arg1 harg1 x0) (4 * 9 + k)) 8 := by
  sl_kernel_rfl

/-- The held values after the whole row, by the body's record. -/
def last : Quad (FVec F S400x128 .f32) :=
  ⟨kernelRun1_A.sl.r_125 c i arg1 harg1 x0, kernelRun1_A.sl.r_126 c i arg1 harg1 x0,
   kernelRun1_A.sl.r_127 c i arg1 harg1 x0, kernelRun1_A.sl.r_128 c i arg1 harg1 x0⟩

/-- Its last held values are those after two groups and three single slices more. -/
theorem last_eq : last c i arg1 harg1 x0
    = insert1 maximumf minimumf (insert1 maximumf minimumf (insert1 maximumf minimumf
        (groups maximumf minimumf (first17 c i arg1 harg1 x0) (fun k => slice (sims c i arg1 harg1 x0) (4 * 17 + k)) 2)
        (slice (sims c i arg1 harg1 x0) 76)) (slice (sims c i arg1 harg1 x0) 77)) (slice (sims c i arg1 harg1 x0) 78) := by
  sl_kernel_rfl

/-- So the record's held values are the held values of the block's similarities. -/
theorem last_held : last c i arg1 harg1 x0 = held (sims c i arg1 harg1 x0) := by
  rw [last_eq, first17_eq, first9_eq, groups_add, groups_add]
  rfl

/-- The transposed two greatest of every lane, by the body's record. -/
theorem two_eq : kernelRun1_A.sl.r_129 c i arg1 harg1 x0 = two (sims c i arg1 harg1 x0) := by
  unfold two
  rw [← last_held]
  sl_kernel_rfl

/-- The start of the threshold, by the body's record. -/
theorem start_eq : kernelRun1_A.sl.r_134 c i arg1 harg1 x0
    = descend (kernelRun1_A.sl.r_129 c i arg1 harg1 x0) 30 := by
  sl_kernel_rfl

/-- The kernel's array of all held values is `cand` of the similarities. -/
theorem cand_eq : kernelRun1_A.sl.r_135 c i arg1 harg1 x0 = cand (sims c i arg1 harg1 x0) := by
  unfold cand
  rw [← last_held]
  rfl

/-- The threshold after two upward moves, by the body's record. -/
theorem moved_eq : kernelRun1_A.sl.r_136 c i arg1 harg1 x0
    = move (kernelRun1_A.sl.r_135 c i arg1 harg1 x0) (move (kernelRun1_A.sl.r_135 c i arg1 harg1 x0)
        (shapeCast S1x400 (kernelRun1_A.sl.r_134 c i arg1 harg1 x0) shapeCasts_S400_S1x400)) := by
  sl_kernel_rfl

/-- The block's one store writes `result` of the block's similarities over the whole staging buffer. -/
theorem pieces_eq (arg2 : Memref sig .tc .vmem S400x10000 .f32) (harg2 : arg2.IsWhole) :
    (kernelRun1_A c i arg1 harg1 arg2 harg2 x0).1
      = [⟨Rect.unit ![0, 0] ![400, 10000] inb_S400x10000_S400x10000_0_0, result (sims c i arg1 harg1 x0)⟩] := by
  have h : (kernelRun1_A c i arg1 harg1 arg2 harg2 x0).1
      = [⟨Rect.unit ![0, 0] ![400, 10000] inb_S400x10000_S400x10000_0_0,
          select (cmpf .oge (sims c i arg1 harg1 x0) (broadcastTo S400x10000
            (maximumf (transpose S400x1 [1, 0] (move (kernelRun1_A.sl.r_135 c i arg1 harg1 x0)
                (kernelRun1_A.sl.r_136 c i arg1 harg1 x0)) transposes_S1x400_p1_0_S400x1)
              (broadcast S400x1 (Scalar.ofBits .f32 0x0DA24260#32))) broadcasts_S400x1_S400x10000))
            (sims c i arg1 harg1 x0) (broadcast S400x10000 (Scalar.ofBits .f32 0x00000000#32))⟩] := by
    sl_kernel_rfl
  rw [h, moved_eq, start_eq, two_eq, cand_eq]
  rfl

end Run

end Cert.Proof.Block

end
-- ==== Proof.Whole.lean ====
/-
  The kernel's arrays after the run: the first region leaves the normalised rows, the second, block by block of
  400 rows, the selected similarities of those rows; and the run's end state read at the result.
-/
module

public import proofs.«01_k».proof.Proof.Block
public import Idealize.ShloMosaic.Lib.Pipeline.Value
public import Idealize.ShloMosaic.Lib.VecWindow
public import Idealize.ShloMosaic.Lib.Pointwise
public import Idealize.ShloMosaic.Lib.Pipeline.ValueKit.Tiles

@[expose] public section

set_option maxRecDepth 16384

noncomputable section

namespace Cert.Proof.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Proof.Block
open Idealize.ShloMosaic.Pipeline (Dat)

variable {F : FTy → Type} [FloatOps F]
variable (m : (ℓ : Loc nD τ sig) → Buf (Elt F) ℓ) (ρ : Dev nD → PrngReg)

/-- The normalised rows, of the three arguments. -/
def rows (x : FVec F S10000x256 .f32) (w0 w1 : FVec F S256 .f32) : FVec F S10000x256 .f32 :=
  k0_pay1 x (shapeCast S1x256 w0 shapeCasts_S256_S1x256) (shapeCast S1x256 w1 shapeCasts_S256_S1x256)

/-- Device `c`'s normalised rows. -/
abbrev rowsOf (c : Dev nD) : FVec F S10000x256 .f32 :=
  rows (m ((c : Thread nD τ).loc main_arg0)) (m ((c : Thread nD τ).loc main_arg1)) (m ((c : Thread nD τ).loc main_arg2))

/-- Block `i` of the rows. -/
def blockRows (h : Vec F S10000x256 .f32) (i : grid1.Coords) : Vec F S400x256 .f32 :=
  View.ld h (Rect.unit (s := S10000x256) (k1_off1 i) S400x256.size (k1_off1_inb i))

/-- The similarities of block `i` of the rows to all rows. -/
def blockSims (h : FVec F S10000x256 .f32) (i : grid1.Coords) : FVec F S400x10000 .f32 := k1_pay2 (blockRows h i) h

/-- The pair of zeros is the constant zero. -/
theorem hz : (![0, 0] : Fin 2 → Nat) = fun _ => 0 := funext fun a => by fin_cases a <;> rfl

/-! ## The first region -/

/-- What the first region finds in the first weight's array. -/
theorem entry_v0 (c : Dev nD) : V1 m ρ c main_v0
    = shapeCast S1x256 (m ((c : Thread nD τ).loc main_arg1)) shapeCasts_S256_S1x256 := by
  rfl

/-- What the first region finds in the second weight's array. -/
theorem entry_v1 (c : Dev nD) : V1 m ρ c main_v1
    = shapeCast S1x256 (m ((c : Thread nD τ).loc main_arg2)) shapeCasts_S256_S1x256 := by
  rfl

/-- What the first region finds in the rows' array. -/
theorem entry_arg0 (c : Dev nD) : V1 m ρ c main_arg0 = m ((c : Thread nD τ).loc main_arg0) :=
  W1_args m ρ c main_arg0 (by decide)

/-- With one point, every window of the first region is its whole array. -/
theorem whole0_0 (X : FVec F S10000x256 .f32) : (win0_0.blk t0_0).view.read (Elt F) X = X :=
  funext fun i => congrArg X (funext fun a => Fin.ext (by
    match a with
    | ⟨0, _⟩ => show 0 * 10000 + 1 * (i 0).val = (i 0).val; omega
    | ⟨1, _⟩ => show 0 * 256 + 1 * (i 1).val = (i 1).val; omega))

/-- The first weight's window is its whole array. -/
theorem whole0_1 (X : FVec F S1x256 .f32) : (win0_1.blk t0_0).view.read (Elt F) X = X :=
  funext fun i => congrArg X (funext fun a => Fin.ext (by
    match a with
    | ⟨0, _⟩ => show 0 * 1 + 1 * (i 0).val = (i 0).val; omega
    | ⟨1, _⟩ => show 0 * 256 + 1 * (i 1).val = (i 1).val; omega))

/-- The second weight's window is its whole array. -/
theorem whole0_2 (X : FVec F S1x256 .f32) : (win0_2.blk t0_0).view.read (Elt F) X = X :=
  funext fun i => congrArg X (funext fun a => Fin.ext (by
    match a with
    | ⟨0, _⟩ => show 0 * 1 + 1 * (i 0).val = (i 0).val; omega
    | ⟨1, _⟩ => show 0 * 256 + 1 * (i 1).val = (i 1).val; omega))

/-- The result's window is its whole array. -/
theorem whole0_3 (X : FVec F S10000x256 .f32) : (win0_3.blk t0_0).view.read (Elt F) X = X :=
  funext fun i => congrArg X (funext fun a => Fin.ext (by
    match a with
    | ⟨0, _⟩ => show 0 * 10000 + 1 * (i 0).val = (i 0).val; omega
    | ⟨1, _⟩ => show 0 * 256 + 1 * (i 1).val = (i 1).val; omega))

/-- What the one point writes back is the normalised rows. -/
theorem flushed0 (c : Dev nD) (t : Fin cfg0.N) :
    (dat0 (V1 m ρ) c).flushed 3 t = (win0_3.blk t).view.read (Elt F) (rowsOf m c) := by
  rcases fin_N0 t with rfl
  have e0 : iblk0 (V1 m ρ) c 0 t0_0 = V1 m ρ c main_arg0 := whole0_0 _
  have e1 : iblk0 (V1 m ρ) c 1 t0_0 = V1 m ρ c main_v0 := whole0_1 _
  have e2 : iblk0 (V1 m ρ) c 2 t0_0 = V1 m ρ c main_v1 := whole0_2 _
  rw [whole0_3]
  show (cfg0.win 3).cut (grid0.coords t0_0) ((dat0 (V1 m ρ) c).after 3 t0_0) = _
  rw [after0_3, e0, e1, e2]
  unfold out0_3
  rw [View.canon_unit_zero hz, View.ld_unit_zero hz, View.ld_unit_zero hz, View.ld_unit_zero hz,
    entry_v0 m ρ, entry_v1 m ρ, entry_arg0 m ρ]
  rfl

/-- After the first region the array holds the normalised rows. -/
theorem final0 (c : Dev nD) : (dat0 (V1 m ρ) c).arrAt 3 cfg0.N = rowsOf m c := by
  refine (dat0 (V1 m ρ) c).arrAt_eq_of_cover 3 (rowsOf m c) (fun t _ => flushed0 m ρ c t) fun i => ?_
  refine ⟨t0_0, flush0_3 _, ?_⟩
  show i ∈ ((View.whole main_v2).slice (win0_3.rect t0_0)).set
  rw [View.set_slice_whole, Rect.mem_set_unit]
  have h0 : (i 0 : Nat) < 10000 := (i 0).isLt
  have h1 : (i 1 : Nat) < 256 := (i 1).isLt
  have e : win0_3.index t0_0 0 * win0_3.size 0 = 0 ∧ win0_3.xsize (grid0.coords t0_0) 0 = 10000
      ∧ win0_3.index t0_0 1 * win0_3.size 1 = 0 ∧ win0_3.xsize (grid0.coords t0_0) 1 = 256 := by decide +kernel
  intro a
  match a with
  | ⟨0, _⟩ =>
    show win0_3.index t0_0 0 * win0_3.size 0 ≤ (i 0 : Nat)
      ∧ (i 0 : Nat) < win0_3.index t0_0 0 * win0_3.size 0 + win0_3.xsize (grid0.coords t0_0) 0
    rw [e.1, e.2.1]; omega
  | ⟨1, _⟩ =>
    show win0_3.index t0_0 1 * win0_3.size 1 ≤ (i 1 : Nat)
      ∧ (i 1 : Nat) < win0_3.index t0_0 1 * win0_3.size 1 + win0_3.xsize (grid0.coords t0_0) 1
    rw [e.2.2.1, e.2.2.2]; omega

/-- So the second region finds the normalised rows. -/
theorem entry_v2 (c : Dev nD) : V2 m ρ c main_v2 = rowsOf m c :=
  (hF0 m ρ c 3).symm.trans (final0 m ρ c)

/-! ## The second region -/

/-- What the body leaves in the staging buffer: the selected similarities of the block. -/
theorem out_eq (c : Dev nD) (i : grid1.Coords) (arg1 : Memref sig .tc .vmem S10000x256 .f32) (harg1 : arg1.IsWhole)
    (arg2 : Memref sig .tc .vmem S400x10000 .f32) (harg2 : arg2.IsWhole) (h : Vec F S10000x256 .f32) :
    out1_A_1 c i arg1 harg1 arg2 harg2 h = result (blockSims h i) := by
  unfold out1_A_1
  rw [pieces_eq]
  refine (View.read_writes_full VO1_1 VO1_1.junk inb_S400x10000_S400x10000_0_0 _ []).trans (congrArg result ?_)
  show k1_pay2 _ _ = _
  unfold blockSims blockRows
  rw [View.readAt_eq_ld, View.readAt_eq_ld, harg1.read_unread]
  exact congrArg _ (View.ld_unit_zero hz _ _)

/-- Row `r` of block `t` is this row of the array. -/
def rowIx (t : Fin 25) (r : Fin 400) : Fin 10000 := ⟨400 * t.val + r.val, by omega⟩

/-- The grid's coordinate is the step. -/
theorem coord (t : Fin cfg1.N) : ((grid1.coords t) 0).val = t.val :=
  (by decide +kernel : ∀ t : Fin grid1.N, ((grid1.coords t) 0).val = t.val) t

/-- Every point finds all the normalised rows. -/
theorem whole1_0 (t : Fin cfg1.N) (X : FVec F S10000x256 .f32) : (win1_0.blk t).view.read (Elt F) X = X :=
  funext fun i => congrArg X (funext fun a => Fin.ext (by
    match a with
    | ⟨0, _⟩ => show 0 * 10000 + 1 * (i 0).val = (i 0).val; omega
    | ⟨1, _⟩ => show 0 * 256 + 1 * (i 1).val = (i 1).val; omega))

/-- Block `t` of the result array is its rows from `400 t`. -/
theorem blk1_1 (t : Fin cfg1.N) (G : FVec F S10000x10000 .f32) (r : Fin 400) (j : Fin 10000) :
    (win1_1.blk t).view.read (Elt F) G (ix2 r j) = G (ix2 (rowIx (t.cast N_1) r) j) := by
  have e : win1_1.index t 0 * win1_1.size 0 = 400 * t.val ∧ win1_1.index t 1 * win1_1.size 1 = 0 :=
    (by decide +kernel : ∀ t : Fin grid1.N, win1_1.index t 0 * win1_1.size 0 = 400 * t.val
      ∧ win1_1.index t 1 * win1_1.size 1 = 0) t
  refine congrArg G (funext fun a => Fin.ext ?_)
  match a with
  | ⟨0, _⟩ => show win1_1.index t 0 * win1_1.size 0 + 1 * r.val = 400 * t.val + r.val; rw [e.1]; omega
  | ⟨1, _⟩ => show win1_1.index t 1 * win1_1.size 1 + 1 * j.val = j.val; rw [e.2]; omega

/-- If `G` is, block by block, the blocks' results, then point `t` writes back its block of `G`. -/
theorem flushed1 (c : Dev nD) (G : FVec F S10000x10000 .f32)
    (hG : ∀ (t : Fin cfg1.N) (r : Fin 400) (j : Fin 10000),
      result (blockSims (rowsOf m c) (grid1.coords t)) (ix2 r j) = G (ix2 (rowIx (t.cast N_1) r) j)) (t : Fin cfg1.N) :
    (dat1 (V2 m ρ) c).flushed 1 t = (win1_1.blk t).view.read (Elt F) G := by
  have e0 : iblk1 (V2 m ρ) c 0 t = V2 m ρ c main_v2 := whole1_0 t _
  show (cfg1.win 1).cut (grid1.coords t) ((dat1 (V2 m ρ) c).after 1 t) = _
  rw [after1_1]
  unfold outsAt1
  rw [e0, entry_v2, out_eq]
  refine funext fun i => ?_
  obtain ⟨r, j, rfl⟩ : ∃ (r : Fin 400) (j : Fin 10000), i = ix2 r j := ⟨i 0, i 1, eq_ix2 i⟩
  exact (hG t r j).trans (blk1_1 t G _ _).symm

/-- Then the result array ends holding `G`. -/
theorem final1 (c : Dev nD) (G : FVec F S10000x10000 .f32)
    (hG : ∀ (t : Fin cfg1.N) (r : Fin 400) (j : Fin 10000),
      result (blockSims (rowsOf m c) (grid1.coords t)) (ix2 r j) = G (ix2 (rowIx (t.cast N_1) r) j)) :
    (dat1 (V2 m ρ) c).arrAt 1 cfg1.N = G := by
  refine (dat1 (V2 m ρ) c).arrAt_eq_of_cover 1 G (fun t _ => flushed1 m ρ c G hG t) fun i => ?_
  have h0 : (i 0 : Nat) < 10000 := (i 0).isLt
  have h1 : (i 1 : Nat) < 10000 := (i 1).isLt
  have hN : cfg1.N = 25 := N_1
  have e (t : Fin cfg1.N) : win1_1.index t 0 * win1_1.size 0 = 400 * t.val ∧ win1_1.xsize (grid1.coords t) 0 = 400
      ∧ win1_1.index t 1 * win1_1.size 1 = 0 ∧ win1_1.xsize (grid1.coords t) 1 = 10000 :=
    (by decide +kernel : ∀ t : Fin grid1.N, win1_1.index t 0 * win1_1.size 0 = 400 * t.val
      ∧ win1_1.xsize (grid1.coords t) 0 = 400 ∧ win1_1.index t 1 * win1_1.size 1 = 0
      ∧ win1_1.xsize (grid1.coords t) 1 = 10000) t
  have ht : (i 0 : Nat) / 400 < cfg1.N := by omega
  refine ⟨⟨(i 0 : Nat) / 400, ht⟩, flush1_1 _, ?_⟩
  show i ∈ ((View.whole main_v3).slice (win1_1.rect ⟨(i 0 : Nat) / 400, ht⟩)).set
  rw [View.set_slice_whole, Rect.mem_set_unit]
  obtain ⟨e1, e2, e3, e4⟩ := e ⟨(i 0 : Nat) / 400, ht⟩
  intro a
  match a with
  | ⟨0, _⟩ =>
    show win1_1.index ⟨(i 0 : Nat) / 400, ht⟩ 0 * win1_1.size 0 ≤ (i 0 : Nat)
      ∧ (i 0 : Nat) < win1_1.index ⟨(i 0 : Nat) / 400, ht⟩ 0 * win1_1.size 0
        + win1_1.xsize (grid1.coords ⟨(i 0 : Nat) / 400, ht⟩) 0
    rw [e1, e2]; dsimp only; omega
  | ⟨1, _⟩ =>
    show win1_1.index ⟨(i 0 : Nat) / 400, ht⟩ 1 * win1_1.size 1 ≤ (i 1 : Nat)
      ∧ (i 1 : Nat) < win1_1.index ⟨(i 0 : Nat) / 400, ht⟩ 1 * win1_1.size 1
        + win1_1.xsize (grid1.coords ⟨(i 0 : Nat) / 400, ht⟩) 1
    rw [e3, e4]; omega

/-! ## The run -/

-- the launch theorem's implicit arguments are found by unifying its conclusion with this one
set_option backward.isDefEq.respectTransparency.types false in
/-- The run's end: the result array holds what the second region leaves, the arguments are unchanged. -/
theorem run : θ_run defs (onTc (τ := τ) (main (F := F))) ⟨m, fun _ => 0, ρ⟩ fun r => ∀ c : Dev nD,
      r.2.mem ((c.tc : Thread nD τ).loc main_v3) = (dat1 (V2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj))
              : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
          ⊢ bigSep Finset.univ (fun _ : Dev nD => (BI.emp : sProp (MT nD τ sig Unit (Elt F) ℕ (UR sig nD τ) ℕ)))
          from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v3 (by decide))).trans (W3_arr m ρ c 1),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-! ## The similarities over the extended reals -/

/-- The similarity of rows `i` and `j`. -/
def dotRows (h : FVec Ideal S10000x256 .f32) (i j : Fin 10000) : EReal := ∑ k : Fin 256, h (ix2 i k) * h (ix2 j k)

/-- The block's similarities at an index. -/
theorem blockSims_apply (h : FVec Ideal S10000x256 .f32) (t : Fin cfg1.N) (r : Fin 400) (j : Fin 10000) :
    blockSims h (grid1.coords t) (ix2 r j) = dotRows h (rowIx (t.cast N_1) r) j := by
  have e (k : Fin 256) : blockRows (F := Ideal) h (grid1.coords t) (ix2 r k) = h (ix2 (rowIx (t.cast N_1) r) k) := by
    refine View.ld_unit_apply_of (Val := Elt Ideal) (e := .f32) h _ _ _ _ _ fun a => ?_
    have e1 := k1_off1_eq (grid1.coords t)
    match a with
    | ⟨0, _⟩ =>
      show 400 * t.val + r.val = k1_off1 (grid1.coords t) 0 + r.val
      rw [e1, ← coord t]; rfl
    | ⟨1, _⟩ =>
      show k.val = k1_off1 (grid1.coords t) 1 + k.val
      rw [e1]; exact (Nat.zero_add _).symm
  unfold blockSims dotRows
  pointwise [k1_pay2]
  simp only [e]
  rfl

end Cert.Proof.Whole

end
-- ==== Proof.Merge.lean ====
/-
  What the merge of a lane keeps. Over a linear order, with the operations read as maximum and minimum, the four
  values held after some inputs are the four greatest of them: a threshold above the filling is reached by the
  i-th held value exactly when at least i inputs reach it.
-/
module

public import proofs.«01_k».proof.Proof.Lanes
public import Mathlib.Algebra.BigOperators.Group.Finset.Basic
public import Mathlib.Order.Lattice

@[expose] public section

namespace Cert.Proof.Lanes

variable {α : Type} [LinearOrder α]

/-- The `i`-th held value, from 0. -/
def Quad.get (q : Quad α) : Fin 4 → α := ![q.m1, q.m2, q.m3, q.m4]

/-- One if the value reaches the threshold. -/
def up (x a : α) : ℕ := if x ≤ a then 1 else 0

/-- `N x` inputs reach `x`, and the held values are the four greatest of them, or the filling `lo`. -/
def Kept (lo : α) (N : α → ℕ) (q : Quad α) : Prop :=
  ∀ x, lo < x → (x ≤ q.m1 ↔ 1 ≤ N x) ∧ (x ≤ q.m2 ↔ 2 ≤ N x) ∧ (x ≤ q.m3 ↔ 3 ≤ N x) ∧ (x ≤ q.m4 ↔ 4 ≤ N x)

/-- Merging four inputs counts them in. -/
theorem kept_merge4 {lo : α} {N : α → ℕ} {q : Quad α} (h : Kept lo N q) (a b c d : α) :
    Kept lo (fun x => N x + up x a + up x b + up x c + up x d) (merge4 max min q a b c d) := by
  intro x hx
  obtain ⟨h1, h2, h3, h4⟩ := h x hx
  simp only [merge4, top1, top2, top3, top4, srt1, srt2, srt3, srt4, le_max_iff, le_min_iff, h1, h2, h3, h4, up]
  by_cases ha : x ≤ a <;> by_cases hb : x ≤ b <;> by_cases hc : x ≤ c <;> by_cases hd : x ≤ d <;>
    simp only [ha, hb, hc, hd, if_true, if_false, or_true, true_or, and_true, true_and, or_false, false_or,
      and_false, false_and, and_self, or_self, true_iff, false_iff, iff_true, iff_false] <;> omega

/-- Inserting one input counts it in. -/
theorem kept_insert1 {lo : α} {N : α → ℕ} {q : Quad α} (h : Kept lo N q) (v : α) :
    Kept lo (fun x => N x + up x v) (insert1 max min q v) := by
  intro x hx
  obtain ⟨h1, h2, h3, h4⟩ := h x hx
  simp only [insert1, le_max_iff, le_min_iff, h1, h2, h3, h4, up]
  by_cases hv : x ≤ v <;> simp only [hv, if_true, if_false, and_true, and_false, or_false, or_true, true_iff] <;> omega

/-- Nothing put in: nothing above the filling is held. -/
theorem kept_none (lo : α) : Kept lo (fun _ => 0) ⟨lo, lo, lo, lo⟩ := by
  intro x hx
  simp [not_le.2 hx]

/-- After `n` groups the held values are the four greatest of the first `4 n` inputs. -/
theorem kept_groups (lo : α) (p : ℕ → α) (n : ℕ) :
    Kept lo (fun x => ∑ k ∈ Finset.range (4 * n), up x (p k)) (groups max min ⟨lo, lo, lo, lo⟩ p n) := by
  induction n with
  | zero => simpa [groups] using kept_none lo
  | succ n ih =>
    have e : (fun x => ∑ k ∈ Finset.range (4 * (n + 1)), up x (p k)) = fun x =>
        ∑ k ∈ Finset.range (4 * n), up x (p k) + up x (p (4 * n)) + up x (p (4 * n + 1)) + up x (p (4 * n + 2))
          + up x (p (4 * n + 3)) := by
      funext x
      rw [Nat.mul_succ, Finset.sum_range_succ, Finset.sum_range_succ, Finset.sum_range_succ, Finset.sum_range_succ]
    rw [e]
    exact kept_merge4 ih (p (4 * n)) (p (4 * n + 1)) (p (4 * n + 2)) (p (4 * n + 3))

/-- After the whole row the held values are the four greatest of the 79 inputs of the lane. -/
theorem kept_lanes (lo : α) (p : ℕ → α) :
    Kept lo (fun x => ∑ k ∈ Finset.range 79, up x (p k)) (lanes max min lo p) := by
  have e : (fun x => ∑ k ∈ Finset.range 79, up x (p k)) = fun x =>
      ∑ k ∈ Finset.range (4 * 19), up x (p k) + up x (p 76) + up x (p 77) + up x (p 78) := by
    funext x
    rw [Finset.sum_range_succ, Finset.sum_range_succ, Finset.sum_range_succ]
  rw [e]
  exact kept_insert1 (kept_insert1 (kept_insert1 (kept_groups lo p 19) (p 76)) (p 77)) (p 78)

/-- Read at a slot. -/
theorem Kept.get {lo : α} {N : α → ℕ} {q : Quad α} (h : Kept lo N q) {x : α} (hx : lo < x) (i : Fin 4) :
    x ≤ q.get i ↔ i.val + 1 ≤ N x := by
  obtain ⟨h1, h2, h3, h4⟩ := h x hx
  match i with
  | ⟨0, _⟩ => exact h1
  | ⟨1, _⟩ => exact h2
  | ⟨2, _⟩ => exact h3
  | ⟨3, _⟩ => exact h4

/-- The greater of two values has every property both have. -/
theorem max_of {P : α → Prop} {a b : α} (ha : P a) (hb : P b) : P (max a b) := by
  rcases max_choice a b with h | h <;> rw [h] <;> assumption

/-- The lesser of two values has every property both have. -/
theorem min_of {P : α → Prop} {a b : α} (ha : P a) (hb : P b) : P (min a b) := by
  rcases min_choice a b with h | h <;> rw [h] <;> assumption

/-- Whatever holds of a quad's four values. -/
def Quad.All (P : α → Prop) (q : Quad α) : Prop := P q.m1 ∧ P q.m2 ∧ P q.m3 ∧ P q.m4

/-- Maximum and minimum pick one of their operands: what holds of the inputs holds of the merged values. -/
theorem all_merge4 {P : α → Prop} {q : Quad α} (h : q.All P) {a b c d : α} (ha : P a) (hb : P b) (hc : P c) (hd : P d) :
    (merge4 max min q a b c d).All P := by
  obtain ⟨h1, h2, h3, h4⟩ := h
  have t1 : P (top1 max min q a b c d) := max_of h1 (min_of (min_of ha hb) (min_of hc hd))
  have t2 : P (top2 max min q a b c d) :=
    max_of h2 (min_of (max_of (min_of ha hb) (min_of hc hd)) (min_of (max_of ha hb) (max_of hc hd)))
  have t3 : P (top3 max min q a b c d) :=
    max_of h3 (max_of (max_of (min_of ha hb) (min_of hc hd)) (min_of (max_of ha hb) (max_of hc hd)))
  have t4 : P (top4 max q a b c d) := max_of h4 (max_of (max_of ha hb) (max_of hc hd))
  exact ⟨max_of (max_of t1 t3) (max_of t2 t4), min_of (max_of t1 t3) (max_of t2 t4),
    max_of (min_of t1 t3) (min_of t2 t4), min_of (min_of t1 t3) (min_of t2 t4)⟩

/-- Merging one value keeps a property that the held values and the new one have. -/
theorem all_insert1 {P : α → Prop} {q : Quad α} (h : q.All P) {v : α} (hv : P v) : (insert1 max min q v).All P := by
  obtain ⟨h1, h2, h3, h4⟩ := h
  exact ⟨max_of h1 hv, max_of h2 (min_of h1 hv), max_of h3 (min_of h2 (min_of h1 hv)),
    max_of h4 (min_of h3 (min_of h2 (min_of h1 hv)))⟩

/-- Merging groups keeps a property that the start and all the values have. -/
theorem all_groups {P : α → Prop} {lo : α} (hlo : P lo) {p : ℕ → α} (hp : ∀ k, P (p k)) (n : ℕ) :
    (groups max min ⟨lo, lo, lo, lo⟩ p n).All P := by
  induction n with
  | zero => exact ⟨hlo, hlo, hlo, hlo⟩
  | succ n ih => exact all_merge4 ih (hp _) (hp _) (hp _) (hp _)

/-- Every held value is one of the inputs or the filling: what holds of those holds of it. -/
theorem all_lanes {P : α → Prop} {lo : α} (hlo : P lo) {p : ℕ → α} (hp : ∀ k, P (p k)) (i : Fin 4) :
    P ((lanes max min lo p).get i) := by
  obtain ⟨h1, h2, h3, h4⟩ :=
    all_insert1 (all_insert1 (all_insert1 (all_groups hlo hp 19) (hp 76)) (hp 77)) (hp 78)
  match i with
  | ⟨0, _⟩ => exact h1
  | ⟨1, _⟩ => exact h2
  | ⟨2, _⟩ => exact h3
  | ⟨3, _⟩ => exact h4

end Cert.Proof.Lanes
-- ==== Proof.Descend.lean ====
/-
  Two searches over finitely many values of a linear order: descending through the distinct values, and moving a
  threshold up to the next value while too many values reach it.
-/
module

public import Mathlib.Data.Finset.Card
public import Mathlib.Data.Fintype.Card
public import Mathlib.Order.Lattice

@[expose] public section

namespace Cert.Proof.Rows

variable {α τ : Type} [LinearOrder α] [Fintype τ] [DecidableEq τ]

/-- `d'` is the greatest of the values below `d`, or the filling `lo` (which then is above every such value). -/
def Next (u : τ → α) (lo d d' : α) : Prop :=
  (∀ t, u t < d → u t ≤ d') ∧ (d' = lo ∨ ∃ t, u t < d ∧ u t = d')

/-- `d` starts at the greatest value and descends. -/
structure Descends (u : τ → α) (lo : α) (d : ℕ → α) : Prop where
  top : ∀ t, u t ≤ d 0
  mem : ∃ t, u t = d 0
  next : ∀ n, Next u lo (d n) (d (n + 1))

variable {u : τ → α} {lo : α} {d : ℕ → α}

/-- What is above the filling is one of the values. -/
theorem Descends.attained (h : Descends u lo d) (n : ℕ) (hn : lo < d n) : ∃ t, u t = d n := by
  cases n with
  | zero => exact h.mem
  | succ n =>
    rcases (h.next n).2 with e | ⟨t, -, e⟩
    · exact absurd hn (by rw [e]; exact lt_irrefl _)
    · exact ⟨t, e⟩

/-- At most `n` distinct values are above the `n`-th. -/
theorem Descends.card_above (h : Descends u lo d) (n : ℕ) :
    ((Finset.univ.image u).filter (d n < ·)).card ≤ n := by
  induction n with
  | zero =>
    rw [Nat.le_zero, Finset.card_eq_zero, Finset.filter_eq_empty_iff]
    intro x hx
    obtain ⟨t, -, rfl⟩ := Finset.mem_image.1 hx
    exact not_lt.2 (h.top t)
  | succ n ih =>
    have hsub : (Finset.univ.image u).filter (d (n + 1) < ·) ⊆ insert (d n) ((Finset.univ.image u).filter (d n < ·)) := by
      intro x hx
      obtain ⟨hx1, hx2⟩ := Finset.mem_filter.1 hx
      obtain ⟨t, -, rfl⟩ := Finset.mem_image.1 hx1
      rw [Finset.mem_insert, Finset.mem_filter]
      rcases lt_trichotomy (u t) (d n) with hlt | heq | hgt
      · exact absurd ((h.next n).1 t hlt) (not_le.2 hx2)
      · exact Or.inl heq
      · exact Or.inr ⟨hx1, hgt⟩
    calc _ ≤ _ := Finset.card_le_card hsub
      _ ≤ _ := Finset.card_insert_le _ _
      _ ≤ n + 1 := Nat.succ_le_succ ih

/-- If more than `n` distinct values reach `w`, so does the `n`-th. -/
theorem Descends.le_of_card (h : Descends u lo d) (n : ℕ) {w : α}
    (hw : n + 1 ≤ ((Finset.univ.image u).filter (w ≤ ·)).card) : w ≤ d n := by
  by_contra hlt
  rw [not_le] at hlt
  have hsub : (Finset.univ.image u).filter (w ≤ ·) ⊆ (Finset.univ.image u).filter (d n < ·) := fun x hx =>
    Finset.mem_filter.2 ⟨(Finset.mem_filter.1 hx).1, lt_of_lt_of_le hlt (Finset.mem_filter.1 hx).2⟩
  have := Finset.card_le_card hsub
  have := h.card_above n
  omega

/-- A `n`-th value above the filling has `n + 1` distinct values reaching it. -/
theorem Descends.card_ge (h : Descends u lo d) (n : ℕ) (hn : lo < d n) :
    n + 1 ≤ ((Finset.univ.image u).filter (d n ≤ ·)).card := by
  induction n with
  | zero =>
    obtain ⟨t, ht⟩ := h.mem
    exact Finset.card_pos.2 ⟨d 0, Finset.mem_filter.2 ⟨Finset.mem_image.2 ⟨t, Finset.mem_univ _, ht⟩, le_refl _⟩⟩
  | succ n ih =>
    rcases (h.next n).2 with e | ⟨t, hlt, e⟩
    · exact absurd hn (by rw [e]; exact lt_irrefl _)
    have hlt' : d (n + 1) < d n := e ▸ hlt
    have hn' := ih (lt_trans hn hlt')
    have hnot : d (n + 1) ∉ (Finset.univ.image u).filter (d n ≤ ·) := fun hm =>
      absurd (Finset.mem_filter.1 hm).2 (not_le.2 hlt')
    have hsub : insert (d (n + 1)) ((Finset.univ.image u).filter (d n ≤ ·)) ⊆ (Finset.univ.image u).filter (d (n + 1) ≤ ·) := by
      intro x hx
      rcases Finset.mem_insert.1 hx with rfl | hx
      · exact Finset.mem_filter.2 ⟨Finset.mem_image.2 ⟨t, Finset.mem_univ _, e⟩, le_refl _⟩
      · exact Finset.mem_filter.2 ⟨(Finset.mem_filter.1 hx).1, hlt'.le.trans (Finset.mem_filter.1 hx).2⟩
    have := Finset.card_le_card hsub
    rw [Finset.card_insert_of_notMem hnot] at this
    omega

/-- If at most `n` distinct values are above `q`, the `n`-th is not above it. -/
theorem Descends.ge_of_card (h : Descends u lo d) (n : ℕ) {q : α} (hq : lo ≤ q)
    (hc : ((Finset.univ.image u).filter (q < ·)).card ≤ n) : d n ≤ q := by
  by_contra hlt
  rw [not_le] at hlt
  have h1 := h.card_ge n (lt_of_le_of_lt hq hlt)
  have hsub : (Finset.univ.image u).filter (d n ≤ ·) ⊆ (Finset.univ.image u).filter (q < ·) := fun x hx =>
    Finset.mem_filter.2 ⟨(Finset.mem_filter.1 hx).1, lt_of_lt_of_le hlt (Finset.mem_filter.1 hx).2⟩
  have := Finset.card_le_card hsub
  omega

/-- `m'` is `m` moved up to the least value above it, if more than 31 values reach `m` and there is one. -/
def Moved (c : τ → α) (hi m m' : α) : Prop :=
  ∃ a, (∀ t, m < c t → a ≤ c t) ∧ (a = hi ∨ ∃ t, m < c t ∧ c t = a)
    ∧ m' = if 31 < (Finset.univ.filter fun t => m ≤ c t).card ∧ a < hi then a else m

variable {c : τ → α} {hi m m' q : α}

/-- A move never passes a value that at most 31 values reach. -/
theorem Moved.le (h : Moved c hi m m') (hm : m ≤ q) (hq : ∃ t, c t = q)
    (hcount : (Finset.univ.filter fun t => q ≤ c t).card ≤ 31) : m' ≤ q := by
  obtain ⟨a, ha, -, rfl⟩ := h
  split_ifs with hc
  · rcases hm.lt_or_eq with hlt | rfl
    · obtain ⟨t, rfl⟩ := hq
      exact ha t hlt
    · exact absurd hc.1 (not_lt.2 hcount)
  · exact hm

/-- A value below `q`, where 31 values reach `q`, is left by a move: for another value, not above `q`, and the
    values from it up to below `q` are fewer. -/
theorem Moved.step (h : Moved c hi m m') (hhi : ∀ t, c t < hi) (hm : m < q) (hmem : ∃ t, c t = m) (hq : ∃ t, c t = q)
    (hcount : 31 ≤ (Finset.univ.filter fun t => q ≤ c t).card) :
    m' ≤ q ∧ (∃ t, c t = m') ∧
      ((Finset.univ.image c).filter fun x => m' ≤ x ∧ x < q).card
        < ((Finset.univ.image c).filter fun x => m ≤ x ∧ x < q).card := by
  obtain ⟨a, ha, hatt, rfl⟩ := h
  obtain ⟨t₀, ht₀⟩ := hmem
  obtain ⟨t₁, ht₁⟩ := hq
  have haq : a ≤ q := ht₁ ▸ ha t₁ (ht₁ ▸ hm)
  have hahi : a < hi := lt_of_le_of_lt haq (ht₁ ▸ hhi t₁)
  have hnot : t₀ ∉ Finset.univ.filter fun t => q ≤ c t := by
    rw [Finset.mem_filter, ht₀]
    exact fun hh => absurd hh.2 (not_le.2 hm)
  have hsub : insert t₀ (Finset.univ.filter fun t => q ≤ c t) ⊆ Finset.univ.filter fun t => m ≤ c t := by
    intro t ht
    rcases Finset.mem_insert.1 ht with rfl | ht
    · exact Finset.mem_filter.2 ⟨Finset.mem_univ _, ht₀.ge⟩
    · exact Finset.mem_filter.2 ⟨Finset.mem_univ _, hm.le.trans (Finset.mem_filter.1 ht).2⟩
  have h32 := Finset.card_le_card hsub
  rw [Finset.card_insert_of_notMem hnot] at h32
  have hcond : 31 < (Finset.univ.filter fun t => m ≤ c t).card ∧ a < hi := ⟨by omega, hahi⟩
  rw [if_pos hcond]
  rcases hatt with e | ⟨t₂, hlt, e⟩
  · exact absurd hahi (by rw [e]; exact lt_irrefl _)
  refine ⟨haq, ⟨t₂, e⟩, Finset.card_lt_card ⟨fun x hx => ?_, fun hh => ?_⟩⟩
  · obtain ⟨hx1, hx2, hx3⟩ := Finset.mem_filter.1 hx
    exact Finset.mem_filter.2 ⟨hx1, (e ▸ hlt).le.trans hx2, hx3⟩
  · have := hh (Finset.mem_filter.2 ⟨Finset.mem_image.2 ⟨t₀, Finset.mem_univ _, ht₀⟩, le_refl m, hm⟩)
    exact absurd (Finset.mem_filter.1 this).2.1 (not_le.2 (e ▸ hlt))

/-- Three moves reach `q` from a value with at most three values from it up to below `q`. -/
theorem reach {m0 m1 m2 m3 : α} (h1 : Moved c hi m0 m1) (h2 : Moved c hi m1 m2) (h3 : Moved c hi m2 m3)
    (hhi : ∀ t, c t < hi) (hmem : m0 < q → ∃ t, c t = m0) (hq : ∃ t, c t = q)
    (hcount : (Finset.univ.filter fun t => q ≤ c t).card = 31)
    (hfew : ((Finset.univ.image c).filter fun x => m0 ≤ x ∧ x < q).card ≤ 3) (hle : m0 ≤ q) : m3 = q := by
  have key : ∀ {m m' : α} {k : ℕ}, Moved c hi m m' → m ≤ q → (m < q → ∃ t, c t = m) →
      ((Finset.univ.image c).filter fun x => m ≤ x ∧ x < q).card ≤ k + 1 →
      m' ≤ q ∧ (m' < q → ∃ t, c t = m') ∧ ((Finset.univ.image c).filter fun x => m' ≤ x ∧ x < q).card ≤ k := by
    intro m m' k hmv hmq hmm hk
    rcases hmq.lt_or_eq with hlt | rfl
    · obtain ⟨r1, r2, r3⟩ := hmv.step hhi hlt (hmm hlt) hq hcount.ge
      exact ⟨r1, fun _ => r2, by omega⟩
    · have : m' = m := by
        obtain ⟨a, -, -, rfl⟩ := hmv
        rw [if_neg (fun hc => absurd hc.1 (by omega))]
      subst this
      refine ⟨le_refl _, fun hh => absurd hh (lt_irrefl _), ?_⟩
      rw [Finset.filter_false_of_mem (fun x _ hh => absurd hh.2 (not_lt.2 hh.1))]
      simp
  obtain ⟨a1, b1, c1⟩ := key h1 hle hmem hfew
  obtain ⟨a2, b2, c2⟩ := key h2 a1 b1 c1
  obtain ⟨a3, b3, c3⟩ := key h3 a2 b2 c2
  by_contra hne
  have hlt : m3 < q := lt_of_le_of_ne a3 hne
  obtain ⟨t, ht⟩ := b3 hlt
  have : m3 ∈ (Finset.univ.image c).filter fun x => m3 ≤ x ∧ x < q :=
    Finset.mem_filter.2 ⟨Finset.mem_image.2 ⟨t, Finset.mem_univ _, ht⟩, le_refl _, hlt⟩
  rw [Finset.card_eq_zero.1 (Nat.le_zero.1 c3)] at this
  exact absurd this (Finset.notMem_empty _)

end Cert.Proof.Rows
-- ==== Proof.Select.lean ====
/-
  One row: where the threshold ends, and so which columns are kept. Columns are divided into classes (lanes);
  of each class the four greatest values are known; the 34 greatest columns of the row are given in order. If
  each positive one of the first 31 is among the four of its class, and the cut after the 31st is clear, the
  columns that reach the threshold are the positive ones of the first 31.
-/
module

public import proofs.«01_k».proof.Proof.Descend
public import Mathlib.Data.Fintype.Prod
public import Mathlib.Data.Finset.Max
public import Mathlib.Order.Interval.Finset.Fin
public import Mathlib.Algebra.Order.BigOperators.Group.Finset

@[expose] public section

namespace Cert.Proof.Rows

variable {α ι Λ : Type} [LinearOrder α] [Fintype ι] [DecidableEq ι] [Fintype Λ] [DecidableEq Λ]

/-- `c i l` is the `i`-th greatest of the values `s j` of class `l`, or the filling `lo`. -/
structure Picks (lane : ι → Λ) (s : ι → α) (lo : α) (c : Fin 4 → Λ → α) : Prop where
  kept : ∀ x, lo < x → ∀ i l, x ≤ c i l ↔ i.val + 1 ≤ (Finset.univ.filter fun j => lane j = l ∧ x ≤ s j).card
  comes : ∀ i l, c i l = lo ∨ ∃ j, c i l = s j

/-- `p` lists 34 greatest columns, greatest first. -/
structure Ranks (s : ι → α) (p : Fin 34 → ι) : Prop where
  inj : Function.Injective p
  anti : ∀ a b, a ≤ b → s (p b) ≤ s (p a)
  rest : ∀ j, (∀ a, p a ≠ j) → ∀ a, s j ≤ s (p a)

/-- How many listed columns of the same class come before the `a`-th. -/
def ahead (lane : ι → Λ) (p : Fin 34 → ι) (a : Fin 34) : ℕ :=
  (Finset.univ.filter fun b => b < a ∧ lane (p b) = lane (p a)).card

/-- The `a`-th value repeats the one before it. -/
def Again (s : ι → α) (p : Fin 34 → ι) (a : Fin 34) : Prop := ∃ b : Fin 34, b.val + 1 = a.val ∧ s (p a) = s (p b)

variable {lane : ι → Λ} {s : ι → α} {lo hi : α} {c : Fin 4 → Λ → α} {p : Fin 34 → ι}

/-- A column greater than a listed one is listed before it. -/
theorem Ranks.before (hR : Ranks s p) {a : Fin 34} {j : ι} (h : s (p a) < s j) : ∃ b, b < a ∧ p b = j := by
  by_contra hno
  have : ∀ b, p b ≠ j := by
    intro b e
    rcases lt_or_ge b a with hlt | hge
    · exact hno ⟨b, hlt, e⟩
    · exact absurd (e ▸ hR.anti a b hge) (not_le.2 h)
  exact absurd (hR.rest j this a) (not_le.2 h)

/-- A listed column with fewer than four of its class before it is held, in the slot that many count. -/
theorem slot (hP : Picks lane s lo c) (hR : Ranks s p) (a : Fin 34) (h : ahead lane p a < 4) (hlo : lo < s (p a)) :
    c ⟨ahead lane p a, h⟩ (lane (p a)) = s (p a) := by
  apply le_antisymm
  · by_contra hlt
    rw [not_le] at hlt
    have h1 := (hP.kept _ (hlo.trans hlt) ⟨ahead lane p a, h⟩ (lane (p a))).1 (le_refl _)
    have hsub : (Finset.univ.filter fun j => lane j = lane (p a) ∧ c ⟨ahead lane p a, h⟩ (lane (p a)) ≤ s j)
        ⊆ (Finset.univ.filter fun b => b < a ∧ lane (p b) = lane (p a)).image p := by
      intro j hj
      obtain ⟨-, hj1, hj2⟩ := Finset.mem_filter.1 hj
      obtain ⟨b, hb, rfl⟩ := hR.before (lt_of_lt_of_le hlt hj2)
      exact Finset.mem_image.2 ⟨b, Finset.mem_filter.2 ⟨Finset.mem_univ _, hb, hj1⟩, rfl⟩
    have h2 := (Finset.card_le_card hsub).trans Finset.card_image_le
    have h3 : (Finset.univ.filter fun b => b < a ∧ lane (p b) = lane (p a)).card = ahead lane p a := rfl
    simp only [] at h1
    omega
  · rw [hP.kept _ hlo]
    have hnot : a ∉ Finset.univ.filter fun b => b < a ∧ lane (p b) = lane (p a) := fun hm =>
      absurd (Finset.mem_filter.1 hm).2.1 (lt_irrefl _)
    have hsub : (insert a (Finset.univ.filter fun b => b < a ∧ lane (p b) = lane (p a))).image p
        ⊆ Finset.univ.filter fun j => lane j = lane (p a) ∧ s (p a) ≤ s j := by
      intro j hj
      obtain ⟨b, hb, rfl⟩ := Finset.mem_image.1 hj
      rcases Finset.mem_insert.1 hb with rfl | hb
      · exact Finset.mem_filter.2 ⟨Finset.mem_univ _, rfl, le_refl _⟩
      · obtain ⟨-, hb1, hb2⟩ := Finset.mem_filter.1 hb
        exact Finset.mem_filter.2 ⟨Finset.mem_univ _, hb2, hR.anti b a hb1.le⟩
    have h1 := Finset.card_le_card hsub
    rw [Finset.card_image_of_injective _ hR.inj, Finset.card_insert_of_notMem hnot] at h1
    exact h1

/-- Within a class the counts before rise. -/
theorem ahead_lt {a b : Fin 34} (h : a < b) (hl : lane (p a) = lane (p b)) : ahead lane p a < ahead lane p b := by
  refine Finset.card_lt_card ⟨fun x hx => ?_, fun hh => ?_⟩
  · obtain ⟨-, h1, h2⟩ := Finset.mem_filter.1 hx
    exact Finset.mem_filter.2 ⟨Finset.mem_univ _, h1.trans h, h2.trans hl⟩
  · have := hh (Finset.mem_filter.2 ⟨Finset.mem_univ _, h, hl⟩)
    exact absurd (Finset.mem_filter.1 this).2.1 (lt_irrefl _)

/-- Two listed columns in the same class with the same count before are one. -/
theorem ahead_inj {a b : Fin 34} (hl : lane (p a) = lane (p b)) (h : ahead lane p a = ahead lane p b) : a = b := by
  rcases lt_trichotomy a b with hlt | rfl | hgt
  · exact absurd h (ahead_lt hlt hl).ne
  · rfl
  · exact absurd h (ahead_lt hgt hl.symm).ne'

/-- Held values reaching `q` are no more than the columns reaching it. -/
theorem count_le (hP : Picks lane s lo c) {q : α} (hq : lo < q) :
    (Finset.univ.filter fun t : Fin 4 × Λ => q ≤ c t.1 t.2).card ≤ (Finset.univ.filter fun j => q ≤ s j).card := by
  rw [Finset.card_eq_sum_card_fiberwise (f := Prod.snd) (t := Finset.univ) (fun _ _ => Finset.mem_univ _),
    Finset.card_eq_sum_card_fiberwise (s := Finset.univ.filter fun j => q ≤ s j) (f := lane) (t := Finset.univ)
      (fun _ _ => Finset.mem_univ _)]
  refine Finset.sum_le_sum fun l _ => ?_
  have h1 : ((Finset.univ.filter fun j => q ≤ s j).filter fun j => lane j = l)
      = Finset.univ.filter fun j => lane j = l ∧ q ≤ s j := by
    ext j
    simp only [Finset.mem_filter, Finset.mem_univ, true_and]
    exact and_comm
  rw [h1]
  calc _ ≤ (Finset.range (Finset.univ.filter fun j => lane j = l ∧ q ≤ s j).card).card := by
        refine Finset.card_le_card_of_injOn (fun t => t.1.val) (fun t ht => ?_) (fun t ht t' ht' e => ?_)
        · simp only [Finset.coe_filter, Finset.mem_filter, Finset.mem_univ, true_and, Set.mem_setOf_eq] at ht
          obtain ⟨ht1, rfl⟩ := ht
          have := (hP.kept q hq t.1 t.2).1 ht1
          simp only [Finset.coe_range, Set.mem_Iio]
          omega
        · simp only [Finset.coe_filter, Finset.mem_filter, Finset.mem_univ, true_and, Set.mem_setOf_eq] at ht ht'
          exact Prod.ext (Fin.ext e) (ht.2.trans ht'.2.symm)
    _ = _ := Finset.card_range _

/-- The two greatest held values of every class. -/
abbrev firstTwo (c : Fin 4 → Λ → α) (t : Fin 2 × Λ) : α := c (t.1.castLE (by decide)) t.2

/-- All held values. -/
abbrev allHeld (c : Fin 4 → Λ → α) (t : Fin 4 × Λ) : α := c t.1 t.2

section Threshold

variable {d : ℕ → α} {m1 m2 m3 : α}

/-- The columns reaching the `e`-th value are the first `e + 1`. -/
def Clear (s : ι → α) (p : Fin 34 → ι) (e : Fin 34) : Prop := ∀ j, s (p e) ≤ s j → ∃ a, a ≤ e ∧ p a = j

/-- Then at most 31 columns reach the `e`-th value. -/
theorem Clear.card_le {e : Fin 34} (he : e.val < 31) (h : Clear s p e) :
    (Finset.univ.filter fun j => s (p e) ≤ s j).card ≤ 31 := by
  have hsub : (Finset.univ.filter fun j => s (p e) ≤ s j) ⊆ (Finset.Iic e).image p := by
    intro j hj
    obtain ⟨a, ha, rfl⟩ := h j (Finset.mem_filter.1 hj).2
    exact Finset.mem_image.2 ⟨a, Finset.mem_Iic.2 ha, rfl⟩
  have := (Finset.card_le_card hsub).trans Finset.card_image_le
  rw [Fin.card_Iic] at this
  omega

/-- The threshold starts no higher than a clear value, -/
theorem start_le (hP : Picks lane s lo c) (hd : Descends (firstTwo c) lo d) {e : Fin 34} (he : e.val < 31)
    (hlo : lo < s (p e)) (h : Clear s p e) : d 30 ≤ s (p e) := by
  refine hd.ge_of_card 30 hlo.le ?_
  have hsub : (Finset.univ.image (firstTwo c)).filter (s (p e) < ·) ⊆ (Finset.Iio e).image fun a => s (p a) := by
    intro x hx
    obtain ⟨hx1, hx2⟩ := Finset.mem_filter.1 hx
    obtain ⟨t, -, rfl⟩ := Finset.mem_image.1 hx1
    rcases (hP.comes (t.1.castLE (by decide)) t.2 : firstTwo c t = lo ∨ ∃ j, firstTwo c t = s j) with e' | ⟨j, e'⟩
    · exact absurd (hlo.trans hx2) (not_lt.2 (le_of_eq e'))
    · obtain ⟨a, ha, rfl⟩ := h j (e' ▸ hx2.le)
      refine Finset.mem_image.2 ⟨a, Finset.mem_Iio.2 (lt_of_le_of_ne ha ?_), e'.symm⟩
      rintro rfl
      exact absurd hx2 (not_lt.2 (le_of_eq e'))
  have := (Finset.card_le_card hsub).trans Finset.card_image_le
  rw [Fin.card_Iio] at this
  omega

/-- and never moves past it. -/
theorem end_le (hP : Picks lane s lo c) (hR : Ranks s p) (hd : Descends (firstTwo c) lo d)
    (h1 : Moved (allHeld c) hi (d 30) m1) (h2 : Moved (allHeld c) hi m1 m2) (h3 : Moved (allHeld c) hi m2 m3)
    {e : Fin 34} (he : e.val < 31) (hlo : lo < s (p e)) (h : Clear s p e) (hfour : ahead lane p e < 4) : m3 ≤ s (p e) := by
  have hq : ∃ t, allHeld c t = s (p e) := ⟨(⟨_, hfour⟩, _), slot hP hR e hfour hlo⟩
  have hc := (count_le hP hlo).trans (h.card_le he)
  exact h3.le (h2.le (h1.le (start_le hP hd he hlo h) hq hc) hq hc) hq hc

/-- Where the 31st value is clear, the first 31 are held, and all but three of the 34 are among the distinct
    first two of their class, the threshold ends at the 31st value. -/
theorem end_eq (hP : Picks lane s lo c) (hR : Ranks s p) (hd : Descends (firstTwo c) lo d)
    (h1 : Moved (allHeld c) hi (d 30) m1) (h2 : Moved (allHeld c) hi m1 m2) (h3 : Moved (allHeld c) hi m2 m3)
    (hlo : ∀ j, lo < s j) (hhi : ∀ j, s j < hi) (hlohi : lo < hi) (h : Clear s p 30)
    (hfour : ∀ a : Fin 34, a.val < 31 → ahead lane p a < 4) (U : Finset (Fin 34)) (hU : U.card ≤ 3)
    (hnew : ∀ a, a ∉ U → ahead lane p a < 2 ∧ ¬ Again s p a) : m3 = s (p 30) := by
  have hstart : s (p 33) ≤ d 30 := by
    refine hd.le_of_card 30 ?_
    have hinj : Set.InjOn (fun a => s (p a)) (Uᶜ : Finset (Fin 34)) := by
      have key : ∀ a b : Fin 34, b ∉ U → a < b → s (p a) ≠ s (p b) := by
        intro a b hb hab e
        have hb1 : 1 ≤ b.val := by have : a.val < b.val := hab; omega
        refine (hnew b hb).2 ⟨⟨b.val - 1, by omega⟩, by simp only []; omega, ?_⟩
        refine le_antisymm (hR.anti _ _ ?_) (e ▸ hR.anti _ _ ?_)
        · rw [Fin.le_def]; simp only []; omega
        · rw [Fin.le_def]; have : a.val < b.val := hab; simp only []; omega
      intro a ha b hb e
      rw [Finset.mem_coe, Finset.mem_compl] at ha hb
      rcases lt_trichotomy a b with hlt | rfl | hgt
      · exact absurd e (key a b hb hlt)
      · rfl
      · exact absurd e.symm (key b a ha hgt)
    have hsub : (Uᶜ : Finset (Fin 34)).image (fun a => s (p a)) ⊆ (Finset.univ.image (firstTwo c)).filter (s (p 33) ≤ ·) := by
      intro x hx
      obtain ⟨a, ha, rfl⟩ := Finset.mem_image.1 hx
      rw [Finset.mem_compl] at ha
      have hh := (hnew a ha).1
      refine Finset.mem_filter.2 ⟨Finset.mem_image.2 ⟨(⟨ahead lane p a, hh⟩, lane (p a)), Finset.mem_univ _, ?_⟩,
        hR.anti _ _ (Fin.le_last a)⟩
      exact slot hP hR a (hh.trans (by decide)) (hlo _)
    have h4 := Finset.card_le_card hsub
    rw [Finset.card_image_of_injOn hinj, Finset.card_compl, Fintype.card_fin] at h4
    omega
  have hq : ∃ t, allHeld c t = s (p 30) := ⟨(⟨_, hfour 30 (by decide)⟩, _), slot hP hR 30 _ (hlo _)⟩
  have hcount : (Finset.univ.filter fun t => s (p 30) ≤ allHeld c t).card = 31 := by
    refine le_antisymm ((count_le hP (hlo _)).trans (h.card_le (by decide))) ?_
    have hcard : (Finset.Iic (30 : Fin 34)).card = 31 := by decide
    rw [← hcard]
    have hf : ∀ a ∈ Finset.Iic (30 : Fin 34), ahead lane p a < 4 := fun a ha =>
      hfour a (by have : a ≤ (30 : Fin 34) := Finset.mem_Iic.1 ha; have : a.val ≤ 30 := this; omega)
    refine Finset.card_le_card_of_injOn (fun a => (⟨ahead lane p a % 4, Nat.mod_lt _ (by decide)⟩, lane (p a)))
      (fun a ha => ?_) (fun a ha b hb e => ?_)
    · rw [Finset.mem_coe, Finset.mem_filter]
      refine ⟨Finset.mem_univ _, ?_⟩
      have e : (⟨ahead lane p a % 4, Nat.mod_lt _ (by decide)⟩ : Fin 4) = ⟨ahead lane p a, hf a ha⟩ :=
        Fin.ext (Nat.mod_eq_of_lt (hf a ha))
      show s (p 30) ≤ c ⟨ahead lane p a % 4, Nat.mod_lt _ (by decide)⟩ (lane (p a))
      rw [e, slot hP hR a (hf a ha) (hlo _)]
      exact hR.anti _ _ (Finset.mem_Iic.1 ha)
    · obtain ⟨e1, e2⟩ := Prod.mk.inj e
      have e3 := Fin.mk.inj e1
      rw [Nat.mod_eq_of_lt (hf a ha), Nat.mod_eq_of_lt (hf b hb)] at e3
      exact ahead_inj e2 e3
  refine reach h1 h2 h3 ?_ ?_ hq hcount ?_ (start_le hP hd (by decide) (hlo _) h)
  · intro t
    rcases hP.comes t.1 t.2 with e | ⟨j, e⟩
    · exact lt_of_eq_of_lt e hlohi
    · exact lt_of_eq_of_lt e (hhi j)
  · intro _
    obtain ⟨t, ht⟩ := hd.attained 30 (lt_of_lt_of_le (hlo _) hstart)
    exact ⟨(t.1.castLE (by decide), t.2), ht⟩
  · have hsub : ((Finset.univ.image (allHeld c)).filter fun x => d 30 ≤ x ∧ x < s (p 30))
        ⊆ (Finset.Ioi (30 : Fin 34)).image fun a => s (p a) := by
      intro x hx
      obtain ⟨hx1, hx2, hx3⟩ := Finset.mem_filter.1 hx
      obtain ⟨t, -, rfl⟩ := Finset.mem_image.1 hx1
      rcases hP.comes t.1 t.2 with e | ⟨j, e⟩
      · exact absurd (lt_of_lt_of_le (hlo (p 33)) (hstart.trans hx2)) (by rw [show allHeld c t = lo from e]; exact lt_irrefl _)
      · have e' : allHeld c t = s j := e
        by_cases hj : ∃ a, p a = j
        · obtain ⟨a, rfl⟩ := hj
          refine Finset.mem_image.2 ⟨a, Finset.mem_Ioi.2 ?_, e'.symm⟩
          by_contra hle
          rw [not_lt] at hle
          exact absurd (hR.anti a 30 hle) (not_le.2 (e' ▸ hx3))
        · refine Finset.mem_image.2 ⟨33, Finset.mem_Ioi.2 (by decide), ?_⟩
          refine le_antisymm (hstart.trans hx2) ?_
          rw [e']
          exact hR.rest j (fun a ha => hj ⟨a, ha⟩) 33
    have := (Finset.card_le_card hsub).trans Finset.card_image_le
    have hcard : (Finset.Ioi (30 : Fin 34)).card = 3 := by decide
    omega

end Threshold

/-- The columns kept are the positive ones of the first 31. -/
theorem row {d : ℕ → α} {m1 m2 m3 zero tiny : α} (hP : Picks lane s lo c) (hR : Ranks s p)
    (hd : Descends (firstTwo c) lo d)
    (h1 : Moved (allHeld c) hi (d 30) m1) (h2 : Moved (allHeld c) hi m1 m2) (h3 : Moved (allHeld c) hi m2 m3)
    (hlo : ∀ j, lo < s j) (hhi : ∀ j, s j < hi) (hlohi : lo < hi) (hz : zero < tiny)
    (found : ∀ a : Fin 34, a.val < 31 → s (p a) ≤ zero ∨ (ahead lane p a < 4 ∧ tiny ≤ s (p a)))
    (cut : s (p 31) ≤ zero ∨ (s (p 31) < s (p 30) ∧ ∃ U : Finset (Fin 34), U.card ≤ 3 ∧
      ∀ a, a ∉ U → ahead lane p a < 2 ∧ ¬ Again s p a)) (j : ι) :
    max m3 tiny ≤ s j ↔ zero < s j ∧ ∃ a : Fin 34, a.val < 31 ∧ p a = j := by
  rw [max_le_iff]
  have clear30 : s (p 31) < s (p 30) → Clear s p 30 := by
    intro hlt j hj
    obtain ⟨b, hb, e⟩ := hR.before (lt_of_lt_of_le hlt hj)
    exact ⟨b, by have : b.val < 31 := hb; show b.val ≤ 30; omega, e⟩
  constructor
  · rintro ⟨hm, ht⟩
    have hpos := lt_of_lt_of_le hz ht
    refine ⟨hpos, ?_⟩
    rcases cut with hc | ⟨hc, U, hU, hnew⟩
    · obtain ⟨b, hb, e⟩ := hR.before (lt_of_le_of_lt hc hpos)
      exact ⟨b, hb, e⟩
    · by_cases h0 : s (p 31) ≤ zero
      · obtain ⟨b, hb, e⟩ := hR.before (lt_of_le_of_lt h0 hpos)
        exact ⟨b, hb, e⟩
      rw [not_le] at h0
      have hfour : ∀ a : Fin 34, a.val < 31 → ahead lane p a < 4 := by
        intro a ha
        rcases found a ha with hf | hf
        · exact absurd (lt_of_lt_of_le h0 (hR.anti a 31 (by show a.val ≤ 31; omega))) (not_lt.2 hf)
        · exact hf.1
      rw [end_eq hP hR hd h1 h2 h3 hlo hhi hlohi (clear30 hc) hfour U hU hnew] at hm
      obtain ⟨a, ha, e⟩ := clear30 hc j hm
      exact ⟨a, by have : a.val ≤ 30 := ha; omega, e⟩
  · rintro ⟨hpos, a, ha, rfl⟩
    obtain ⟨hfa, hta⟩ := (found a ha).resolve_left (not_le.2 hpos)
    refine ⟨?_, hta⟩
    have hex : ∃ e : Fin 34, e.val < 31 ∧ zero < s (p e) ∧ a ≤ e ∧ Clear s p e := by
      rcases cut with hc | ⟨hc, -⟩
      · -- the last positive one of the first 31
        have hne : (Finset.univ.filter fun e : Fin 34 => e.val < 31 ∧ zero < s (p e)).Nonempty :=
          ⟨a, Finset.mem_filter.2 ⟨Finset.mem_univ _, ha, hpos⟩⟩
        obtain ⟨-, hm1, hm2⟩ := Finset.mem_filter.1 (Finset.max'_mem _ hne)
        refine ⟨_, hm1, hm2, Finset.le_max' _ _ (Finset.mem_filter.2 ⟨Finset.mem_univ _, ha, hpos⟩), fun j hj => ?_⟩
        obtain ⟨b, hb, rfl⟩ := hR.before (lt_of_le_of_lt hc (lt_of_lt_of_le hm2 hj))
        exact ⟨b, Finset.le_max' _ _ (Finset.mem_filter.2 ⟨Finset.mem_univ _, hb, lt_of_lt_of_le hm2 hj⟩), rfl⟩
      · by_cases h0 : zero < s (p 30)
        · exact ⟨30, by decide, h0, by show a.val ≤ 30; omega, clear30 hc⟩
        · have hne : (Finset.univ.filter fun e : Fin 34 => e.val < 31 ∧ zero < s (p e)).Nonempty :=
            ⟨a, Finset.mem_filter.2 ⟨Finset.mem_univ _, ha, hpos⟩⟩
          obtain ⟨-, hm1, hm2⟩ := Finset.mem_filter.1 (Finset.max'_mem _ hne)
          refine ⟨_, hm1, hm2, Finset.le_max' _ _ (Finset.mem_filter.2 ⟨Finset.mem_univ _, ha, hpos⟩), fun j hj => ?_⟩
          obtain ⟨b, hb, rfl⟩ := hR.before (lt_of_le_of_lt (not_lt.1 h0) (lt_of_lt_of_le hm2 hj))
          have hb' : b.val < 30 := hb
          exact ⟨b, Finset.le_max' _ _ (Finset.mem_filter.2 ⟨Finset.mem_univ _, by omega, lt_of_lt_of_le hm2 hj⟩), rfl⟩
    obtain ⟨e, he, hpe, hae, hcl⟩ := hex
    obtain ⟨hfe, -⟩ := (found e he).resolve_left (not_le.2 hpe)
    exact (end_le hP hR hd h1 h2 h3 he (hlo _) hcl hfe).trans (hR.anti a e hae)

end Cert.Proof.Rows
-- ==== Proof.Reading.lean ====
/-
  The block's computation over the extended reals, read row by row: what each vector function of `Block` is at
  a row of the block, and so that the row's held values, threshold and result are as `Select` takes them.
-/
module

public import proofs.«01_k».proof.Proof.Block
public import proofs.«01_k».proof.Proof.Merge
public import proofs.«01_k».proof.Proof.Select
public import Idealize.ShloMosaic.Lib.Pointwise

@[expose] public section

set_option maxRecDepth 16384

noncomputable section

namespace Cert.Proof.Reading

open Idealize.ShloMosaic Idealize.SL.Sem Cert.KernelIdeal Cert.KernelIdeal.Gen Cert.Proof.Lanes Cert.Proof.Block
open Cert.Proof.Rows

/-- The kernel's filling, its bound from above, and the least similarity it keeps. -/
abbrev lo : EReal := Ideal.ofBits .f32 0xFF61B1E6#32
/-- The kernel's greatest starting value. -/
abbrev hi : EReal := Ideal.ofBits .f32 0x7F61B1E6#32
/-- The smallest value the kernel keeps. -/
abbrev tiny : EReal := Ideal.ofBits .f32 0x0DA24260#32

/-- The kernel's 31. -/
theorem thirtyone : Ideal.ofBits .f32 0x41F80000#32 = ((31 : ℕ) : EReal) := by
  have h : Ideal.ofBits .f32 0x41F80000#32 = ((31 : ℝ) : EReal) := by
    simp [Ideal.ofBits, Ideal.ieee, -EReal.coe_mul]
    norm_num
  rw [h]
  rfl

/-- The start of a maximum is the least extended real. -/
theorem bot_bits : Ideal.ofBits .f32 0xFF800000#32 = ⊥ := by simp [Ideal.ofBits, Ideal.ieee]

/-- The start of a minimum is the greatest extended real. -/
theorem top_bits : Ideal.ofBits .f32 0x7F800000#32 = ⊤ := by simp [Ideal.ofBits, Ideal.ieee]

section Fold

variable {α β : Type} [LinearOrder β] [Fintype α] [Nonempty α] (f : α → β)

/-- A maximum over a nonempty type that starts at a least element is one of the values and above all. -/
theorem fold_max {b : β} (hb : ∀ x, b ≤ x) :
    (∀ t, f t ≤ Finset.univ.fold max b f) ∧ ∃ t, Finset.univ.fold max b f = f t := by
  have h1 := (Finset.fold_max_le (s := Finset.univ) (f := f) (b := b) (Finset.univ.fold max b f)).1 (le_refl _)
  refine ⟨fun t => h1.2 t (Finset.mem_univ _), ?_⟩
  rcases (Finset.le_fold_max (s := Finset.univ) (f := f) (b := b) (Finset.univ.fold max b f)).1 (le_refl _) with h | ⟨t, -, h⟩
  · obtain ⟨t⟩ := ‹Nonempty α›
    exact ⟨t, le_antisymm (h.trans (hb _)) (h1.2 t (Finset.mem_univ _))⟩
  · exact ⟨t, le_antisymm h (h1.2 t (Finset.mem_univ _))⟩

/-- A minimum over a nonempty type that starts at a greatest element is one of the values and below all. -/
theorem fold_min {b : β} (hb : ∀ x, x ≤ b) :
    (∀ t, Finset.univ.fold min b f ≤ f t) ∧ ∃ t, Finset.univ.fold min b f = f t :=
  fold_max (β := βᵒᵈ) f hb

end Fold

/-- Slice `k` at a lane: the column `128 k + l` of the row, or the filling past the last column. -/
theorem slice_apply (v : FVec Ideal S400x10000 .f32) (k : ℕ) (hk : k < 79) (r : Fin 400) (l : Fin 128) :
    slice v k (ix2 r l) = if h : 128 * k + l.val < 10000 then v (ix2 r ⟨128 * k + l.val, h⟩) else lo := by
  unfold slice
  by_cases h : k < 78
  · rw [dif_pos h, dif_pos (by omega)]
    pointwise
  · obtain rfl : k = 78 := by omega
    rw [dif_neg h]
    pointwise [k1_pay82]
    by_cases hl : l.val < 16
    · rw [dif_pos hl, dif_pos (by omega)]
    · rw [dif_neg hl, dif_neg (by omega)]

section Map

variable {α β : Type} {mx mn : α → α → α} {mx' mn' : β → β → β} (φ : α → β)

/-- A quad read through a function. -/
def mapQ (q : Quad α) : Quad β := ⟨φ q.m1, φ q.m2, φ q.m3, φ q.m4⟩

variable (hx : ∀ a b, φ (mx a b) = mx' (φ a) (φ b)) (hn : ∀ a b, φ (mn a b) = mn' (φ a) (φ b))
include hx hn

/-- A map that respects maximum and minimum passes through the merging of groups. -/
theorem map_groups (q : Quad α) (p : ℕ → α) (n : ℕ) :
    mapQ φ (groups mx mn q p n) = groups mx' mn' (mapQ φ q) (fun k => φ (p k)) n := by
  induction n with
  | zero => rfl
  | succ n ih =>
    rw [groups, groups, ← ih]
    simp only [mapQ, merge4, top1, top2, top3, top4, srt1, srt2, srt3, srt4, hx, hn]

/-- Merging commutes with whatever the two operations commute with. -/
theorem map_lanes (z : α) (p : ℕ → α) :
    mapQ φ (lanes mx mn z p) = lanes mx' mn' (φ z) (fun k => φ (p k)) := by
  have h := map_groups φ hx hn ⟨z, z, z, z⟩ p 19
  unfold lanes
  change _ = insert1 mx' mn' (insert1 mx' mn' (insert1 mx' mn' (groups mx' mn' (mapQ φ ⟨z, z, z, z⟩) (fun k => φ (p k)) 19)
    (φ (p 76))) (φ (p 77))) (φ (p 78))
  rw [← h]
  simp only [mapQ, insert1, hx, hn]

end Map

variable (v : FVec Ideal S400x10000 .f32) (r : Fin 400)

/-- The row's similarities. -/
abbrev sim (j : Fin 10000) : EReal := v (ix2 r j)

/-- A column's class: its number modulo 128. -/
def lane (j : Fin 10000) : Fin 128 := ⟨j.val % 128, Nat.mod_lt _ (by decide)⟩

/-- The `i`-th held value of class `l` of the row. -/
def c (i : Fin 4) (l : Fin 128) : EReal := (lanes max min lo fun k => slice v k (ix2 r l)).get i

/-- The held values at row `r` and lane `l` are the held values of that lane of that row. -/
theorem held_apply (l : Fin 128) :
    mapQ (fun u : FVec Ideal S400x128 .f32 => u (ix2 r l)) (held v) = lanes max min lo fun k => slice v k (ix2 r l) := by
  have h0 : (k1_pay3 (F := Ideal) : FVec Ideal S400x128 .f32) (ix2 r l) = lo := by pointwise [k1_pay3]
  unfold held
  rw [map_lanes (mx' := max) (mn' := min) _ (fun _ _ => rfl) (fun _ _ => rfl), h0]

/-- As many slices reach `x` at a lane as columns of the class do. -/
theorem count_slices (l : Fin 128) {x : EReal} (hx : lo < x) :
    ∑ k ∈ Finset.range 79, up x (slice v k (ix2 r l))
      = (Finset.univ.filter fun j => lane j = l ∧ x ≤ sim v r j).card := by
  have hl := l.isLt
  unfold up
  rw [Finset.sum_boole, Nat.cast_id]
  refine (Finset.card_bij (fun j _ => j.val / 128) ?_ ?_ ?_).symm
  · intro j hj
    obtain ⟨-, h1, h2⟩ := Finset.mem_filter.1 hj
    have h1 : j.val % 128 = l.val := congrArg Fin.val h1
    have hj' := j.isLt
    refine Finset.mem_filter.2 ⟨Finset.mem_range.2 (by omega), ?_⟩
    have e : 128 * (j.val / 128) + l.val = j.val := by omega
    rw [slice_apply v _ (by omega), dif_pos (by omega)]
    have : (⟨128 * (j.val / 128) + l.val, by omega⟩ : Fin 10000) = j := Fin.ext e
    rw [this]
    exact h2
  · intro j hj j' hj' h
    have h1 : j.val % 128 = l.val := congrArg Fin.val (Finset.mem_filter.1 hj).2.1
    have h2 : j'.val % 128 = l.val := congrArg Fin.val (Finset.mem_filter.1 hj').2.1
    exact Fin.ext (by omega)
  · intro k hk
    obtain ⟨h1, h2⟩ := Finset.mem_filter.1 hk
    rw [slice_apply v k (Finset.mem_range.1 h1)] at h2
    by_cases h : 128 * k + l.val < 10000
    · rw [dif_pos h] at h2
      refine ⟨⟨128 * k + l.val, h⟩, Finset.mem_filter.2 ⟨Finset.mem_univ _, Fin.ext ?_, h2⟩, ?_⟩
      · show (128 * k + l.val) % 128 = l.val
        omega
      · show (128 * k + l.val) / 128 = k
        omega
    · rw [dif_neg h] at h2
      exact absurd hx (not_lt.2 h2)

/-- The held values are the four greatest of each class. -/
theorem picks : Picks lane (sim v r) lo (c v r) where
  kept x hx i l := by
    rw [← count_slices v r l hx]
    exact (kept_lanes lo _).get hx i
  comes i l := by
    unfold c
    -- beyond the 79 slices nothing is read
    have e : (lanes max min lo fun k => slice v k (ix2 r l))
        = lanes max min lo fun k => if k < 79 then slice v k (ix2 r l) else lo := by
      rfl
    rw [e]
    refine all_lanes (P := fun y => y = lo ∨ ∃ j, y = sim v r j) (Or.inl rfl) (fun k => ?_) i
    by_cases hk : k < 79
    · rw [if_pos hk, slice_apply v k hk]
      by_cases h : 128 * k + l.val < 10000
      · rw [dif_pos h]; exact Or.inr ⟨_, rfl⟩
      · rw [dif_neg h]; exact Or.inl rfl
    · rw [if_neg hk]; exact Or.inl rfl

/-- The two greatest held values of a class, at the row. -/
theorem two_apply (t : Fin 2 × Fin 128) : two v (ix2 (finProdFinEquiv t) r) = firstTwo (c v r) t := by
  obtain ⟨i, l⟩ := t
  have h := held_apply v r l
  have hl := l.isLt
  pointwise [two]
  unfold firstTwo c
  rw [← h]
  match i with
  | ⟨0, h0⟩ =>
    have hv : (finProdFinEquiv ((⟨0, h0⟩ : Fin 2), l)).val = l.val := rfl
    rw [dif_pos (by rw [hv]; omega)]
    exact congrArg (fun l => (held v).m1 (ix2 r l)) (Fin.ext (by show (finProdFinEquiv _).val = l.val; rw [hv]))
  | ⟨1, h1⟩ =>
    have hv : (finProdFinEquiv ((⟨1, h1⟩ : Fin 2), l)).val = l.val + 128 := rfl
    rw [dif_neg (by rw [hv]; omega)]
    exact congrArg (fun l => (held v).m2 (ix2 r l)) (Fin.ext (by show (finProdFinEquiv _).val - 128 = l.val; rw [hv]; omega))

/-- All held values of a class, at the row. -/
theorem cand_apply (t : Fin 4 × Fin 128) : cand v (ix2 (finProdFinEquiv t) r) = allHeld (c v r) t := by
  obtain ⟨i, l⟩ := t
  have h := held_apply v r l
  have hl := l.isLt
  pointwise [cand, k1_pay399]
  unfold allHeld c
  rw [← h]
  match i with
  | ⟨0, h0⟩ =>
    have hv : (finProdFinEquiv ((⟨0, h0⟩ : Fin 4), l)).val = l.val := rfl
    rw [dif_pos (by rw [hv]; omega)]
    exact congrArg (fun l => (held v).m1 (ix2 r l)) (Fin.ext (by show (finProdFinEquiv _).val = l.val; rw [hv]))
  | ⟨1, h1⟩ =>
    have hv : (finProdFinEquiv ((⟨1, h1⟩ : Fin 4), l)).val = l.val + 128 := rfl
    rw [dif_neg (by rw [hv]; omega), dif_pos (by rw [hv]; omega)]
    exact congrArg (fun l => (held v).m2 (ix2 r l)) (Fin.ext (by show (finProdFinEquiv _).val - 128 = l.val; rw [hv]; omega))
  | ⟨2, h2⟩ =>
    have hv : (finProdFinEquiv ((⟨2, h2⟩ : Fin 4), l)).val = l.val + 256 := rfl
    rw [dif_neg (by rw [hv]; omega), dif_neg (by rw [hv]; omega), dif_pos (by rw [hv]; omega)]
    exact congrArg (fun l => (held v).m3 (ix2 r l)) (Fin.ext (by show (finProdFinEquiv _).val - 128 - 128 = l.val; rw [hv]; omega))
  | ⟨3, h3⟩ =>
    have hv : (finProdFinEquiv ((⟨3, h3⟩ : Fin 4), l)).val = l.val + 384 := rfl
    rw [dif_neg (by rw [hv]; omega), dif_neg (by rw [hv]; omega), dif_neg (by rw [hv]; omega)]
    exact congrArg (fun l => (held v).m4 (ix2 r l)) (Fin.ext (by show (finProdFinEquiv _).val - 128 - 128 - 128 = l.val; rw [hv]; omega))

/-- The descent starts at the greatest entry of the column. -/
theorem descend_zero (u : FVec Ideal S256x400 .f32) :
    descend u 0 (ix1 r) = Finset.univ.fold max ⊥ (fun x => u (ix2 x r)) := by
  rw [← bot_bits]
  pointwise [descend]

/-- One step of the descent: the greatest of the entries below `d`. -/
theorem lower_apply (u : FVec Ideal S256x400 .f32) (d : FVec Ideal S400 .f32) :
    lower u d (ix1 r) = Finset.univ.fold max ⊥ (fun x => if u (ix2 x r) < d (ix1 r) then u (ix2 x r) else lo) := by
  rw [← bot_bits]
  pointwise [lower]

/-- The count is the sum of ones over the entries not below `m`. -/
theorem count_apply (u : FVec Ideal S512x400 .f32) (m : FVec Ideal S1x400 .f32) :
    countFrom u m (ix2 0 r) = (((Finset.univ.filter fun x => m (ix2 0 r) ≤ u (ix2 x r)).card : ℕ) : EReal) := by
  rw [← Finset.sum_boole]
  pointwise [countFrom]

/-- The next value up: the least of the entries above `m`. -/
theorem above_apply (u : FVec Ideal S512x400 .f32) (m : FVec Ideal S1x400 .f32) :
    above u m (ix2 0 r) = Finset.univ.fold min ⊤ (fun x => if m (ix2 0 r) < u (ix2 x r) then u (ix2 x r) else hi) := by
  rw [← top_bits]
  pointwise [above]

/-- One move of the threshold, at a column. -/
theorem move_apply (u : FVec Ideal S512x400 .f32) (m : FVec Ideal S1x400 .f32) :
    move u m (ix2 0 r) = if 31 < (Finset.univ.filter fun x => m (ix2 0 r) ≤ u (ix2 x r)).card ∧ above u m (ix2 0 r) < hi
      then above u m (ix2 0 r) else m (ix2 0 r) := by
  pointwise [move]
  rw [count_apply, thirtyone]
  simp only [EReal.natCast_lt_iff]
  by_cases h1 : 31 < (Finset.univ.filter fun x => m (ix2 0 r) ≤ u (ix2 x r)).card <;>
    by_cases h2 : above u m (ix2 0 r) < hi <;> simp [h1, h2, Scalar.select, IntOp.andi]

/-- The block's result, at an entry. -/
theorem result_apply (j : Fin 10000) :
    result v (ix2 r j) = if max (threshold v (ix2 0 r)) tiny ≤ v (ix2 r j) then v (ix2 r j) else 0 := by
  pointwise [result]

/-- The start of the threshold descends through the two greatest of every class. -/
theorem descends : Descends (firstTwo (c v r)) lo fun n => descend (two v) n (ix1 r) where
  top t := by
    rw [descend_zero, ← two_apply]
    exact (fold_max (fun x => two v (ix2 x r)) (b := ⊥) fun _ => bot_le).1 _
  mem := by
    obtain ⟨t, ht⟩ := (fold_max (fun x => two v (ix2 x r)) (b := ⊥) fun _ => bot_le).2
    refine ⟨finProdFinEquiv.symm t, ?_⟩
    rw [descend_zero, ← two_apply, Equiv.apply_symm_apply]
    exact ht.symm
  next n := by
    have e : descend (two v) (n + 1) (ix1 r) = _ := lower_apply r (two v) (descend (two v) n)
    have h := fold_max (fun x => if two v (ix2 x r) < descend (two v) n (ix1 r) then two v (ix2 x r) else lo)
      (b := ⊥) fun _ => bot_le
    refine ⟨fun t ht => ?_, ?_⟩
    · rw [e]
      rw [← two_apply] at ht ⊢
      exact le_of_eq_of_le (if_pos ht).symm (h.1 _)
    · obtain ⟨t, ht⟩ := h.2
      rw [e, ht]
      by_cases hlt : two v (ix2 t r) < descend (two v) n (ix1 r)
      · right
        refine ⟨finProdFinEquiv.symm t, ?_⟩
        rw [← two_apply, Equiv.apply_symm_apply, if_pos hlt]
        exact ⟨hlt, rfl⟩
      · exact Or.inl (if_neg hlt)

/-- An upward move of the kernel is one of `Descend`. -/
theorem moved (m : FVec Ideal S1x400 .f32) : Moved (allHeld (c v r)) hi (m (ix2 0 r)) (move (cand v) m (ix2 0 r)) := by
  have h := fold_min (fun x => if m (ix2 0 r) < cand v (ix2 x r) then cand v (ix2 x r) else hi) (b := ⊤) fun _ => le_top
  refine ⟨above (cand v) m (ix2 0 r), fun t ht => ?_, ?_, ?_⟩
  · rw [← cand_apply] at ht ⊢
    rw [above_apply]
    exact le_of_le_of_eq (h.1 _) (if_pos ht)
  · obtain ⟨t, ht⟩ := h.2
    rw [above_apply, ht]
    by_cases hlt : m (ix2 0 r) < cand v (ix2 t r)
    · right
      refine ⟨finProdFinEquiv.symm t, ?_⟩
      rw [← cand_apply, Equiv.apply_symm_apply, if_pos hlt]
      exact ⟨hlt, rfl⟩
    · exact Or.inl (if_neg hlt)
  · have hc : (Finset.univ.filter fun t => m (ix2 0 r) ≤ allHeld (c v r) t).card
        = (Finset.univ.filter fun x => m (ix2 0 r) ≤ cand v (ix2 x r)).card := by
      refine Finset.card_equiv finProdFinEquiv fun t => ?_
      simp only [Finset.mem_filter, Finset.mem_univ, true_and]
      rw [← cand_apply]
    rw [move_apply, hc]

end Cert.Proof.Reading

end
-- ==== Proof.Bound.lean ====
/-
  A row of extended reals divided by its length, or by a positive number where the length is smaller, has entries
  between minus one and one; so the dot product of two such rows of 256 entries lies between minus and plus 256.
-/
module

public import Idealize.ShloMosaic.PureOps.Ideal

@[expose] public section

noncomputable section

namespace Cert.Proof.Bound

open Idealize.ShloMosaic

/-- A square is nonnegative. -/
theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A square bounded by a sum of squares whose root is at most the real `d`: the number is at most `d` in size. -/
theorem within (x S : EReal) (d : ℝ) (hd : 0 < d) (hx : x * x ≤ S) (hS : Ideal.sqrt S ≤ (d : EReal)) :
    ∃ r : ℝ, x = r ∧ |r| ≤ d := by
  have h0 : 0 ≤ S := (square_nonneg x).trans hx
  induction S with
  | bot => exact absurd h0 (by simp)
  | top =>
    have e : Ideal.sqrt ⊤ = ⊤ := rfl
    exact absurd hS (by rw [e]; exact not_le.mpr (EReal.coe_lt_top d))
  | coe s =>
    have hs : 0 ≤ s := EReal.coe_nonneg.mp h0
    have hS' : (Real.sqrt s : EReal) ≤ (d : EReal) := by
      have e : Ideal.sqrt (s : EReal) = if s < 0 then ⊥ else (Real.sqrt s : EReal) := rfl
      rwa [e, if_neg (not_lt.mpr hs)] at hS
    have hsd : Real.sqrt s ≤ d := EReal.coe_le_coe_iff.mp hS'
    induction x with
    | bot => exact absurd hx (by simp)
    | top => exact absurd hx (by simp)
    | coe r =>
      refine ⟨r, rfl, ?_⟩
      have hr : r * r ≤ s := by
        rw [← EReal.coe_mul] at hx
        exact EReal.coe_le_coe_iff.mp hx
      exact (Real.abs_le_sqrt (by rw [pow_two]; exact hr)).trans hsd

/-- A number whose square is part of a sum of squares, divided by the root of the sum or by a positive number where
    the root is smaller, is a real number of size at most one. -/
theorem quotient (x S : EReal) (e : ℝ) (he : 0 < e) (hx : x * x ≤ S) :
    ∃ r : ℝ, Ideal.div x (max (Ideal.sqrt S) (e : EReal)) = r ∧ |r| ≤ 1 := by
  have hle : (e : EReal) ≤ max (Ideal.sqrt S) (e : EReal) := le_max_right _ _
  have hS : Ideal.sqrt S ≤ max (Ideal.sqrt S) (e : EReal) := le_max_left _ _
  generalize max (Ideal.sqrt S) (e : EReal) = D at hle hS ⊢
  have hD : 0 < D := (EReal.coe_pos.mpr he).trans_le hle
  have hdiv : Ideal.div x D = x * D⁻¹ := by
    unfold Ideal.div
    rw [if_neg hD.ne']
  rw [hdiv]
  induction D with
  | bot => exact absurd hD (by simp)
  | top => exact ⟨0, by simp, by simp⟩
  | coe d =>
    have hd : 0 < d := EReal.coe_pos.mp hD
    obtain ⟨r, rfl, hr⟩ := within x S d hd hx hS
    refine ⟨r * d⁻¹, by rw [EReal.coe_mul, EReal.coe_inv], ?_⟩
    rw [abs_mul, abs_inv, abs_of_pos hd]
    exact mul_inv_le_one_of_le₀ hr hd.le

/-- The dot product of two rows of 256 entries of size at most one is a real number of size at most 256. -/
theorem dot (a b : Fin 256 → EReal) (ha : ∀ k, ∃ r : ℝ, a k = r ∧ |r| ≤ 1) (hb : ∀ k, ∃ r : ℝ, b k = r ∧ |r| ≤ 1) :
    ∃ r : ℝ, ∑ k, a k * b k = r ∧ |r| ≤ 256 := by
  choose u hu hu1 using ha
  choose v hv hv1 using hb
  refine ⟨∑ k, u k * v k, ?_, ?_⟩
  · have cast : ∀ f : Fin 256 → ℝ, ((∑ k, f k : ℝ) : EReal) = ∑ k, (f k : EReal) := fun f =>
      map_sum (⟨⟨((↑) : ℝ → EReal), EReal.coe_zero⟩, EReal.coe_add⟩ : ℝ →+ EReal) f Finset.univ
    rw [cast]
    exact Finset.sum_congr rfl fun k _ => by rw [hu, hv, EReal.coe_mul]
  · refine (Finset.abs_sum_le_sum_abs _ _).trans ?_
    calc ∑ k, |u k * v k| ≤ ∑ _k : Fin 256, (1 : ℝ) := Finset.sum_le_sum fun k _ => by
          rw [abs_mul]
          exact mul_le_one₀ (hu1 k) (abs_nonneg _) (hv1 k)
      _ = 256 := by simp

end Cert.Proof.Bound

end
-- ==== Proof.Similar.lean ====
/-
  The similarities the reference ranks: the normalised rows' pairwise dot products. They are the kernel's own
  similarities, entry by entry, and every one of them lies strictly between the two bounds the kernel starts its search
  from, whatever the arguments hold.
-/
module

public import proofs.«01_k».proof.Proof.Whole
public import proofs.«01_k».proof.Proof.Reading
public import proofs.«01_k».proof.Proof.Bound
public import proofs.«01_k».proof.Proof.Gen.ReferenceIdeal.Run
public import proofs.«01_k».proof.Proof.Gen.Pre_spread_rows
public import Idealize.ShloMosaic.Lib.Pointwise

@[expose] public section

set_option maxRecDepth 16384

noncomputable section

namespace Cert.Proof.Similar

open Idealize.ShloMosaic Idealize.ShloMosaic.TcCoe
open Cert.ReferenceIdeal Cert.ReferenceIdeal.Gen Cert.Proof.Whole

variable {F : FTy → Type} [FloatOps F]

/-- The rows before they are normalised: the first weight, the rectifier, the second weight. -/
def raw (x : FVec F S10000x256 .f32) (w0 w1 : FVec F S256 .f32) : FVec F S10000x256 .f32 :=
  mulf (maximumf (mulf x (broadcastInDim S10000x256 ![0, 1] bcast_S1x256_S10000x256_0_1 (broadcastInDim S1x256 ![1] bcast_S256_S1x256_1 w0)))
      (broadcastInDim S10000x256 ![] bcast_S_S10000x256 (constant S_ .f32 0x00000000#32)))
    (broadcastInDim S10000x256 ![0, 1] bcast_S1x256_S10000x256_0_1 (broadcastInDim S1x256 ![1] bcast_S256_S1x256_1 w1))

/-- Each row divided by its length, or by the least length allowed. -/
def unit (h : FVec F S10000x256 .f32) : FVec F S10000x256 .f32 :=
  Host.divf h (broadcastInDim S10000x256 ![0, 1] bcast_S10000x1_S10000x256_0_1
    (maximumf (Host.sqrt (broadcastInDim S10000x1 ![0] bcast_S10000_S10000x1_0
        (Host.reduceAdd (mulf h h) (constant S_ .f32 0x00000000#32) reducesTo_S10000x256_S10000_d1 h_S_)))
      (broadcastInDim S10000x1 ![] bcast_S_S10000x1 (constant S_ .f32 0x2B8CBCCC#32))))

/-- The dot products of all pairs of rows. -/
def pairs (h : FVec F S10000x256 .f32) : FVec F S10000x10000 .f32 :=
  Host.dotGeneral dot_S10000x256_S256x10000_S10000x10000_1_0_0_1_n_n none h
    (transpose S256x10000 [1, 0] h transposes_S10000x256_S256x10000_1_0)

/-- The similarities, of the three arguments. -/
def similar (x : FVec F S10000x256 .f32) (w0 w1 : FVec F S256 .f32) : FVec F S10000x10000 .f32 := pairs (unit (raw x w0 w1))

/-- The reference's normalised rows are the kernel's, entry by entry. -/
theorem unit_raw_apply (x : FVec Ideal S10000x256 .f32) (w0 w1 : FVec Ideal S256 .f32) (i : Fin 10000) (k : Fin 256) :
    unit (raw x w0 w1) (ix2 i k) = rows x w0 w1 (ix2 i k) := by
  pointwise [unit, raw, rows, Cert.KernelIdeal.Gen.k0_pay1]

/-- A similarity is the dot product of two normalised rows. -/
theorem similar_apply (x : FVec Ideal S10000x256 .f32) (w0 w1 : FVec Ideal S256 .f32) (i j : Fin 10000) :
    similar x w0 w1 (ix2 i j) = dotRows (rows x w0 w1) i j := by
  unfold dotRows
  simp only [← unit_raw_apply]
  unfold similar
  pointwise [pairs]

/-- A normalised entry: the raw entry divided by the row's length, or by the least length allowed. -/
theorem unit_apply (h : FVec Ideal S10000x256 .f32) (i : Fin 10000) (k : Fin 256) :
    unit h (ix2 i k) = Ideal.div (h (ix2 i k))
      (max (Ideal.sqrt (∑ l : Fin 256, h (ix2 i l) * h (ix2 i l))) (Ideal.ofBits .f32 0x2B8CBCCC#32)) := by
  pointwise [unit]

/-- The least length allowed is a positive number. -/
theorem least : ∃ e : ℝ, 0 < e ∧ Ideal.ofBits .f32 0x2B8CBCCC#32 = (e : EReal) := by
  refine ⟨_, ?_, by simp [Ideal.ofBits, Ideal.ieee, -EReal.coe_mul]; rfl⟩
  positivity

/-- Every similarity is a real number of size at most 256. -/
theorem similar_bound (x : FVec Ideal S10000x256 .f32) (w0 w1 : FVec Ideal S256 .f32) (i j : Fin 10000) :
    ∃ r : ℝ, dotRows (rows x w0 w1) i j = r ∧ |r| ≤ 256 := by
  have entry (i : Fin 10000) (k : Fin 256) : ∃ r : ℝ, rows x w0 w1 (ix2 i k) = r ∧ |r| ≤ 1 := by
    obtain ⟨e, he, hb⟩ := least
    rw [← unit_raw_apply, unit_apply, hb]
    exact Bound.quotient _ _ e he
      (Finset.single_le_sum (f := fun l : Fin 256 => raw x w0 w1 (ix2 i l) * raw x w0 w1 (ix2 i l))
        (fun l _ => Bound.square_nonneg _) (Finset.mem_univ k))
  exact Bound.dot _ _ (entry i) (entry j)

/-- The kernel's lower starting point is below minus 256. -/
theorem lo_lt : Reading.lo < ((-256 : ℝ) : EReal) := by
  have h : ∃ r : ℝ, Reading.lo = (r : EReal) ∧ r < -256 := by
    refine ⟨_, by simp [Reading.lo, Ideal.ofBits, Ideal.ieee, -EReal.coe_mul]; rfl, ?_⟩
    norm_num
  obtain ⟨r, e, hr⟩ := h
  rw [e]
  exact EReal.coe_lt_coe_iff.mpr hr

/-- The kernel's upper starting point is above 256. -/
theorem lt_hi : ((256 : ℝ) : EReal) < Reading.hi := by
  have h : ∃ r : ℝ, Reading.hi = (r : EReal) ∧ 256 < r := by
    refine ⟨_, by simp [Reading.hi, Ideal.ofBits, Ideal.ieee, -EReal.coe_mul]; rfl, ?_⟩
    norm_num
  obtain ⟨r, e, hr⟩ := h
  rw [e]
  exact EReal.coe_lt_coe_iff.mpr hr

/-- The smallest value the kernel keeps is positive. -/
theorem tiny_pos : (0 : EReal) < Reading.tiny := by
  have h : ∃ r : ℝ, Reading.tiny = (r : EReal) ∧ 0 < r := by
    refine ⟨_, by simp [Reading.tiny, Ideal.ofBits, Ideal.ieee, -EReal.coe_mul]; rfl, ?_⟩
    positivity
  obtain ⟨r, e, hr⟩ := h
  rw [e]
  exact EReal.coe_pos.mpr hr

/-- Every similarity is above the lower starting point. -/
theorem lo_lt_similar (x : FVec Ideal S10000x256 .f32) (w0 w1 : FVec Ideal S256 .f32) (i j : Fin 10000) :
    Reading.lo < dotRows (rows x w0 w1) i j := by
  obtain ⟨r, e, hr⟩ := similar_bound x w0 w1 i j
  rw [e]
  exact lo_lt.trans_le (EReal.coe_le_coe_iff.mpr (abs_le.mp hr).1)

/-- Every similarity is below the upper starting point. -/
theorem similar_lt_hi (x : FVec Ideal S10000x256 .f32) (w0 w1 : FVec Ideal S256 .f32) (i j : Fin 10000) :
    dotRows (rows x w0 w1) i j < Reading.hi := by
  obtain ⟨r, e, hr⟩ := similar_bound x w0 w1 i j
  rw [e]
  exact (EReal.coe_le_coe_iff.mpr (abs_le.mp hr).2).trans_lt lt_hi

end Cert.Proof.Similar

end
-- ==== Proof.Top.lean ====
/-
  The greatest entries of each row, as the reference ranks them: the row's positions in the stable order that puts
  greater entries first. The first entries of that order, for any number of them, are what a top-k of that many
  returns, values and positions; and those positions rank the row.
-/
module

public import proofs.«01_k».proof.Proof.Select
public import Idealize.ShloMosaic.Lib.SortFacts
public import Idealize.ShloMosaic.Lib.Pointwise

@[expose] public section

set_option maxRecDepth 16384

noncomputable section

namespace Cert.Proof.Top

open Idealize.ShloMosaic
open Cert.Proof.Rows (Ranks)

/-- The comparison the ranking sorts by: greater first. -/
def greater (f : Fin 10000 → EReal) (k l : Fin 10000) : Bool :=
  FloatOps.cmpfTotal (F := Ideal) (φ := .f32) .gt (f k) (f l) == 1#1

/-- One position comes strictly before another exactly when its entry is greater. -/
theorem greater_eq_true (f : Fin 10000 → EReal) (k l : Fin 10000) : greater f k l = true ↔ f l < f k := by
  unfold greater
  show (BitVec.ofBool (decide (f k > f l)) == 1#1) = true ↔ _
  by_cases h : f l < f k <;> simp [h]

/-- One position does not come strictly before another exactly when its entry is not greater. -/
theorem greater_eq_false (f : Fin 10000 → EReal) (k l : Fin 10000) : greater f k l = false ↔ f k ≤ f l := by
  rw [← not_lt, ← greater_eq_true f k l, Bool.not_eq_true]

/-- The position of a row that the stable order puts at place `a`. -/
def order (f : Fin 10000 → EReal) (a : Fin 10000) : Fin 10000 := sortedFrom (greater f) a

/-- Along the order the entries do not increase. -/
theorem order_anti (f : Fin 10000 → EReal) (a b : Fin 10000) (h : a ≤ b) : f (order f b) ≤ f (order f a) := by
  rcases h.eq_or_lt with rfl | h
  · exact le_rfl
  · refine (greater_eq_false f _ _).mp (sortedFrom_noInversion (greater f) (greater f) ?_ (fun _ _ h => h) ?_ a b h)
    · intro a b h
      exact (greater_eq_false f b a).mpr ((greater_eq_true f a b).mp h).le
    · intro a b c h1 h2
      rw [greater_eq_false] at h1 h2 ⊢
      exact h1.trans h2

/-- The first 34 positions of the order rank the row. -/
theorem ranks (f : Fin 10000 → EReal) : Ranks f fun a : Fin 34 => order f (a.castLE (by omega)) where
  inj := fun a b h => Fin.castLE_injective _ (sortedFrom_injective (greater f) h)
  anti := fun a b h => order_anti f _ _ h
  rest := fun j hj a => by
    obtain ⟨b, rfl⟩ := sortedFrom_surjective (greater f) j
    refine order_anti f _ b ?_
    by_contra hb
    have hb34 : b.val < 34 := by
      have : b.val < a.val := lt_of_not_ge hb
      omega
    exact hj ⟨b.val, hb34⟩ rfl

/-- Moving along the second axis keeps the row and changes the column. -/
theorem along_ix2 (i j k : Fin 10000) :
    Shape.Idx.along (s := ⟨2, ![10000, 10000]⟩) (ix2 i j) 1 k = ix2 i k := by
  funext a
  match a with
  | ⟨0, _⟩ => rfl
  | ⟨1, _⟩ => rfl

/-- The index a slice from the corner reads. -/
theorem corner_ix2 {K : Nat} (hK : K ≤ 10000)
    (h : Shape.Slices ⟨2, ![10000, 10000]⟩ (fun _ => 0) ⟨2, ![10000, K]⟩) {α : Type}
    (x : Shape.Idx ⟨2, ![10000, 10000]⟩ → α) (i : Fin 10000) (a : Fin K) :
    extractStridedSlice ⟨2, ![10000, K]⟩ (fun _ => 0) x h (ix2 i a) = x (ix2 i (a.castLE hK)) := by
  refine congrArg x (funext fun b => Fin.ext ?_)
  match b with
  | ⟨0, _⟩ => exact Nat.zero_add _
  | ⟨1, _⟩ => exact Nat.zero_add _

/-- The comparison of the sort along a row, at the row's entries. -/
def before (s : FVec Ideal ⟨2, ![10000, 10000]⟩ .f32) (J : Shape.Idx ⟨2, ![10000, 10000]⟩) (k l : Fin 10000) : Bool :=
  FloatOps.cmpfTotal (F := Ideal) (φ := .f32) .gt (s (J.along 1 k)) (s (J.along 1 l)) == 1#1

/-- It is the ranking's comparison of that row. -/
theorem before_eq (s : FVec Ideal ⟨2, ![10000, 10000]⟩ .f32) (i b : Fin 10000) :
    before s (ix2 i b) = greater fun j => s (ix2 i j) := by
  funext k l
  unfold before
  rw [along_ix2, along_ix2]
  rfl

/-- The values a top-k returns: the entries at the first places of the order. -/
theorem topK_values {K : Nat} (hK : K ≤ 10000) (s : FVec Ideal ⟨2, ![10000, 10000]⟩ .f32)
    (h : Shape.Slices ⟨2, ![10000, 10000]⟩ (fun _ => 0) ⟨2, ![10000, K]⟩) (i : Fin 10000) (a : Fin K) :
    (Host.topK ⟨2, ![10000, K]⟩ 1 (FloatOps.cmpfTotal (F := Ideal) (φ := .f32) .gt) s h).1 (ix2 i a)
      = s (ix2 i (order (fun j => s (ix2 i j)) (a.castLE hK))) := by
  unfold Host.topK
  dsimp only
  refine (corner_ix2 hK h _ i a).trans ?_
  unfold Host.sort2
  rw [dif_pos (show 1 < 2 by decide)]
  show s (Shape.Idx.along (ix2 i (a.castLE hK)) 1 (sortedFrom (before s (ix2 i (a.castLE hK))) (a.castLE hK))) = _
  rw [before_eq]
  exact congrArg s (along_ix2 i _ (order (fun j => s (ix2 i j)) (a.castLE hK)))

/-- The positions a top-k returns: the first places of the order. -/
theorem topK_indices {K : Nat} (hK : K ≤ 10000) (s : FVec Ideal ⟨2, ![10000, 10000]⟩ .f32)
    (h : Shape.Slices ⟨2, ![10000, 10000]⟩ (fun _ => 0) ⟨2, ![10000, K]⟩) (i : Fin 10000) (a : Fin K) :
    (Host.topK ⟨2, ![10000, K]⟩ 1 (FloatOps.cmpfTotal (F := Ideal) (φ := .f32) .gt) s h).2 (ix2 i a)
      = BitVec.ofNat 32 (order (fun j => s (ix2 i j)) (a.castLE hK)).val := by
  unfold Host.topK
  dsimp only
  refine (corner_ix2 hK h _ i a).trans ?_
  unfold Host.sort2
  rw [dif_pos (show 1 < 2 by decide)]
  show iotaInDim ⟨2, ![10000, 10000]⟩ 32 1
    (Shape.Idx.along (ix2 i (a.castLE hK)) 1 (sortedFrom (before s (ix2 i (a.castLE hK))) (a.castLE hK))) = _
  rw [before_eq]
  refine (congrArg (iotaInDim ⟨2, ![10000, 10000]⟩ 32 1) (along_ix2 i _ (order (fun j => s (ix2 i j)) (a.castLE hK)))).trans ?_
  pointwise

end Cert.Proof.Top

end
-- ==== Proof.Chosen.lean ====
/-
  What the reference leaves at each entry of its result: the similarity, cut below at zero, where the column is among the
  row's 31 greatest, and zero elsewhere.
-/
module

public import proofs.«01_k».proof.Proof.Similar
public import proofs.«01_k».proof.Proof.Top
public import Idealize.ShloMosaic.Lib.ScatterToDense.RefScatter

@[expose] public section

set_option maxRecDepth 16384

noncomputable section

namespace Cert.Proof.Chosen

open Idealize.ShloMosaic Idealize.ShloMosaic.TcCoe
open Cert.ReferenceIdeal Cert.ReferenceIdeal.Gen Cert.Proof.Similar Cert.Proof.Top

variable {F : FTy → Type} [FloatOps F]

/-- The row numbers as the scatter reads them. -/
def rowNumbers : IVec S10000x31x1 32 :=
  broadcastInDim S10000x31x1 ![0, 1] bcast_S10000x31_S10000x31x1_0_1
    (broadcastInDim S10000x31 ![0, 1] bcast_S10000x1_S10000x31_0_1
      (select (cmpi .slt (broadcastInDim S10000x1 ![0] bcast_S10000_S10000x1_0 (iotaInDim S10000 32 0))
          (broadcastInDim S10000x1 ![] bcast_S_S10000x1 (constantI S_ 32 0#32)))
        (addi (broadcastInDim S10000x1 ![0] bcast_S10000_S10000x1_0 (iotaInDim S10000 32 0))
          (broadcastInDim S10000x1 ![] bcast_S_S10000x1 (constantI S_ 32 10000#32)))
        (broadcastInDim S10000x1 ![0] bcast_S10000_S10000x1_0 (iotaInDim S10000 32 0))))

/-- The column numbers as the scatter reads them. -/
def columnNumbers (p : IVec S10000x31 32) : IVec S10000x31x1 32 :=
  broadcastInDim S10000x31x1 ![0, 1] bcast_S10000x31_S10000x31x1_0_1
    (select (cmpi .slt p (broadcastInDim S10000x31 ![] bcast_S_S10000x31 (constantI S_ 32 0#32)))
      (addi p (broadcastInDim S10000x31 ![] bcast_S_S10000x31 (constantI S_ 32 10000#32))) p)

/-- The pairs of row and column number. -/
def places (p : IVec S10000x31 32) : IVec S10000x31x2 32 :=
  concatenate S10000x31x2 2 [⟨S10000x31x1, rowNumbers⟩, ⟨S10000x31x1, columnNumbers p⟩] concatenates_S10000x31x1_S10000x31x1_S10000x31x2_d2

/-- The mask: ones at the chosen places, zeros elsewhere. -/
def mask (p : IVec S10000x31 32) : FVec F S10000x10000 .f32 :=
  Host.scatter scatter_S10000x10000_S10000x31x2_S10000x31_n_01_01_2 (fun _ b => b)
    (broadcastInDim S10000x10000 ![] bcast_S_S10000x10000 (constant S_ .f32 0x00000000#32)) (places p)
    (broadcastInDim S10000x31 ![] bcast_S_S10000x31 (constant S_ .f32 0x3F800000#32))

/-- The positions of the 31 greatest similarities of each row. -/
def greatest (s : FVec F S10000x10000 .f32) : IVec S10000x31 32 :=
  (Host.topK S10000x31 1 (FloatOps.cmpfTotal .gt) s sliceFits_S10000x10000_S10000x31).2

/-- The reference's result, of the similarities. -/
def chosen (s : FVec F S10000x10000 .f32) : FVec F S10000x10000 .f32 :=
  maximumf (mulf s (mask (greatest s))) (broadcastInDim S10000x10000 ![] bcast_S_S10000x10000 (constant S_ .f32 0x00000000#32))

/-- The reference's run leaves `chosen` of the similarities of its arguments. -/
theorem result_eq (m : (ℓ : Loc nD τ sig) → Buf (Elt F) ℓ) (c : Dev nD) :
    Cert.ReferenceIdeal.Value.res_main_v34 m c
      = chosen (similar (m ((c.tc : Thread nD τ).loc main_arg0)) (m ((c.tc : Thread nD τ).loc main_arg1)) (m ((c.tc : Thread nD τ).loc main_arg2))) := by
  rfl

/-- The row numbers are not changed by the wrap of negative numbers. -/
theorem rowNumbers_apply (i : Fin 10000) (k : Fin 31) : rowNumbers (ix3 i k 0) = BitVec.ofNat 32 i.val := by
  pointwise [rowNumbers]
  refine Routing.wrap_of_lt _ _ ?_
  rw [BitVec.toNat_ofNat]
  omega

/-- Nor are the column numbers, being below 10000. -/
theorem columnNumbers_apply (p : IVec S10000x31 32) (i : Fin 10000) (k : Fin 31) (hp : (p (ix2 i k)).toNat < 10000) :
    columnNumbers p (ix3 i k 0) = p (ix2 i k) := by
  pointwise [columnNumbers]
  exact Routing.wrap_of_lt _ _ (by omega)

/-- The first component of a place is the row number. -/
theorem places_row (p : IVec S10000x31 32) (i : Fin 10000) (k : Fin 31) : places p (ix3 i k 0) = BitVec.ofNat 32 i.val := by
  rw [← rowNumbers_apply i k]
  pointwise [places]

/-- The second component of a place is the column number. -/
theorem places_column (p : IVec S10000x31 32) (i : Fin 10000) (k : Fin 31) (hp : (p (ix2 i k)).toNat < 10000) :
    places p (ix3 i k 1) = p (ix2 i k) := by
  rw [← columnNumbers_apply p i k hp]
  pointwise [places]

/-- The mask holds one where the column is among the row's positions, and zero elsewhere. -/
theorem mask_apply (p : IVec S10000x31 32) (hp : ∀ i k, (p (ix2 i k)).toNat < 10000) (i j : Fin 10000) :
    mask (F := Ideal) p (ix2 i j)
      = if ∃ k : Fin 31, (p (ix2 i k)).toNat = j.val then Ideal.ofBits .f32 0x3F800000#32 else 0 := by
  have word : ∀ (i : Fin 10000) (k : Fin 31),
      p (ix2 i k) = (fun (i : Fin 10000) (k : Nat) => if h : k < 31 then p (ix2 i ⟨k, h⟩) else 0#32) i k.val := fun i k => by
    show _ = if h : k.val < 31 then p (ix2 i ⟨k.val, h⟩) else 0#32
    rw [dif_pos k.isLt]
  have h := ScatterToDense.scatter_eq_GS scatter_S10000x10000_S10000x31x2_S10000x31_n_01_01_2 rfl rfl rfl (by decide) (by decide)
    (broadcastInDim S10000x10000 ![] bcast_S_S10000x10000 (constant (F := Ideal) S_ .f32 0x00000000#32)) (places p)
    (broadcastInDim S10000x31 ![] bcast_S_S10000x31 (constant (F := Ideal) S_ .f32 0x3F800000#32))
    (fun i k => if h : k < 31 then p (ix2 i ⟨k, h⟩) else 0#32) (fun _ _ => Ideal.ofBits .f32 0x3F800000#32)
    (fun i k => by rw [← ix3_eq_valueIdx]; exact places_row p i k)
    (fun i k => by rw [← ix3_eq_valueIdx]; exact (places_column p i k (hp i k)).trans (word i k))
    (fun i k => rfl) i j
  unfold mask
  rw [ix2_eq_valueIdx]
  refine h.trans ?_
  have zero : broadcastInDim S10000x10000 ![] bcast_S_S10000x10000 (constant (F := Ideal) S_ .f32 0x00000000#32)
      (ValueIdx.ix2 i j) = (0 : EReal) := by
    rw [← ix2_eq_valueIdx]
    pointwise
  rw [zero]
  split
  · rename_i hk
    obtain ⟨k, hk⟩ := hk
    rcases LaneScatter.lastHit_cases (fun t => j.val = (if h : t < 31 then p (ix2 i ⟨t, h⟩) else 0#32).toNat)
      (fun _ => Ideal.ofBits .f32 0x3F800000#32) 0 31 with ⟨_, _, _, _, e⟩ | ⟨hn, _⟩
    · exact e
    · refine absurd ?_ (hn k.val k.isLt)
      rw [dif_pos k.isLt]
      exact hk.symm
  · rename_i hk
    refine LaneScatter.lastHit_of_none _ _ fun t ht e => hk ⟨⟨t, ht⟩, ?_⟩
    simp only [dif_pos ht] at e
    exact e.symm

/-- The mask's one. -/
theorem one : Ideal.ofBits .f32 0x3F800000#32 = (1 : EReal) := by
  have h : Ideal.ofBits .f32 0x3F800000#32 = ((1 : ℝ) : EReal) := by
    simp [Ideal.ofBits, Ideal.ieee, -EReal.coe_mul]
    norm_num
  rw [h]
  rfl

/-- The reference's result at an entry: the similarity cut below at zero where the column is at one of the first 31
    places of its row's order, zero elsewhere. -/
theorem chosen_apply (s : FVec Ideal S10000x10000 .f32) (i j : Fin 10000) :
    chosen s (ix2 i j)
      = if ∃ k : Fin 31, order (fun j => s (ix2 i j)) (k.castLE (by omega)) = j then max (s (ix2 i j)) 0 else 0 := by
  have position (i : Fin 10000) (k : Fin 31) :
      (greatest s (ix2 i k)).toNat = (order (fun j => s (ix2 i j)) (k.castLE (by omega))).val := by
    have h := topK_indices (K := 31) (by omega) s sliceFits_S10000x10000_S10000x31 i k
    unfold greatest
    rw [h, BitVec.toNat_ofNat]
    exact Nat.mod_eq_of_lt (by omega)
  have hm := mask_apply (greatest s) (fun i k => by rw [position]; exact Fin.isLt _) i j
  simp only [position, ← Fin.ext_iff, one] at hm
  have e : chosen s (ix2 i j) = max (s (ix2 i j) * mask (F := Ideal) (greatest s) (ix2 i j)) 0 := by
    pointwise [chosen]
  rw [e, hm]
  split
  · rw [mul_one]
  · rw [mul_zero, max_self]

end Cert.Proof.Chosen

end
-- ==== Proof.Spread.lean ====
/-
  What the precondition says of a row. It lists the row's 34 greatest similarities, counts for each how many listed
  before it share its class of columns, marks the repeats, and compares; here each of these arrays is read at an entry.
-/
module

public import proofs.«01_k».proof.Proof.Similar
public import proofs.«01_k».proof.Proof.Top
public import Idealize.ShloMosaic.Lib.Routing.Words
public import Idealize.ShloMosaic.Lib.WordCmp

@[expose] public section

set_option maxRecDepth 16384

noncomputable section

namespace Cert.Proof.Spread

open Idealize.ShloMosaic Idealize.ShloMosaic.TcCoe
open Cert.Pre_spread_rows Cert.Pre_spread_rows.Facts Cert.Proof.Similar Cert.Proof.Top
open Cert.Proof.Rows (ahead Again)
open Cert.Proof.Reading (lane tiny)

variable {F : FTy → Type} [FloatOps F] [Facts]

/-- The classes of the listed columns: their numbers modulo 128. -/
def classes (p : IVec S10000x34 32) : IVec S10000x34 32 :=
  Host.remsi p (broadcastInDim S10000x34 ![] bcast_S_S10000x34 (constantI S_ 32 128#32))

/-- Which pairs of listed places are of one class, the second before the first. -/
def earlier (q : IVec S10000x34 32) : IVec S10000x34x34 1 :=
  andi (cmpi .eq
      (broadcastInDim S10000x34x34 ![0, 1, 2] bcast_S10000x34x1_S10000x34x34_0_1_2 (broadcastInDim S10000x34x1 ![0, 1] bcast_S10000x34_S10000x34x1_0_1 q))
      (broadcastInDim S10000x34x34 ![0, 1, 2] bcast_S10000x1x34_S10000x34x34_0_1_2 (broadcastInDim S10000x1x34 ![0, 2] bcast_S10000x34_S10000x1x34_0_2 q)))
    (broadcastInDim S10000x34x34 ![0, 1, 2] bcast_S1x34x34_S10000x34x34_0_1_2
      (broadcastInDim S1x34x34 ![1, 2] bcast_S34x34_S1x34x34_1_2
        (cmpi .slt (broadcastInDim S34x34 ![0, 1] bcast_S1x34_S34x34_0_1 (broadcastInDim S1x34 ![1] bcast_S34_S1x34_1 (iotaInDim S34 32 0)))
          (broadcastInDim S34x34 ![0, 1] bcast_S34x1_S34x34_0_1 (broadcastInDim S34x1 ![0] bcast_S34_S34x1_0 (iotaInDim S34 32 0))))))

/-- How many places before each are of its class. -/
def aheads (q : IVec S10000x34 32) : FVec F S10000x34 .f32 :=
  Host.reduceAdd (fn_where (F := F) (earlier q) (constant S_ .f32 0x3F800000#32) (constant S_ .f32 0x00000000#32))
    (constant S_ .f32 0x00000000#32) reducesTo_S10000x34x34_S10000x34_d2 h_S_

/-- Which listed values repeat the one before. -/
def repeats (v : FVec F S10000x34 .f32) : IVec S10000x34 1 :=
  concatenate S10000x34 1 [⟨S10000x1, broadcastInDim S10000x1 ![] bcast_S_S10000x1 (constantI S_ 1 0#1)⟩,
    ⟨S10000x33, cmpf .oeq (extractStridedSlice S10000x33 ![0, 1] v slices_S10000x34_S10000x33_0_1)
      (extractStridedSlice S10000x33 ![0, 0] v slices_S10000x34_S10000x33_0_0)⟩] concatenates_S10000x1_S10000x33_S10000x34_d1

/-- Which listed places are of no use to the kernel's first walk: third or later of their class, or repeats. -/
def idle (v n : FVec F S10000x34 .f32) : IVec S10000x34 1 :=
  ori (cmpf .oge n (broadcastInDim S10000x34 ![] bcast_S_S10000x34 (constant S_ .f32 0x40000000#32))) (repeats v)

/-- How many such places a row has. -/
def idles (v n : FVec F S10000x34 .f32) : FVec F S10000 .f32 :=
  Host.reduceAdd (fn_where_0 (F := F) (idle v n) (constant S_ .f32 0x3F800000#32) (constant S_ .f32 0x00000000#32))
    (constant S_ .f32 0x00000000#32) reducesTo_S10000x34_S10000_d1 h_S_

/-- One listed value of each row. -/
def listed30 (v : FVec F S10000x34 .f32) : FVec F S10000 .f32 :=
  shapeCast S10000 (extractStridedSlice S10000x1 ![0, 30] v slices_S10000x34_S10000x1_0_30) shapeCasts_S10000x1_S10000

/-- The next listed value of each row. -/
def listed31 (v : FVec F S10000x34 .f32) : FVec F S10000 .f32 :=
  shapeCast S10000 (extractStridedSlice S10000x1 ![0, 31] v slices_S10000x34_S10000x1_0_31) shapeCasts_S10000x1_S10000

/-- The condition on the cut between the 31 greatest values and the rest. -/
def cuts (v n : FVec F S10000x34 .f32) : IVec S10000 1 :=
  ori (cmpf .ole (listed31 v) (broadcastInDim S10000 ![] bcast_S_S10000 (constant S_ .f32 0x00000000#32)))
    (andi (cmpf .ogt (listed30 v) (listed31 v))
      (cmpf .ole (idles v n) (broadcastInDim S10000 ![] bcast_S_S10000 (constant S_ .f32 0x40400000#32))))

/-- The condition on each of the 31 greatest values. -/
def finds (v n : FVec F S10000x34 .f32) : IVec S10000x31 1 :=
  ori (cmpf .ole (extractStridedSlice S10000x31 ![0, 0] v slices_S10000x34_S10000x31_0_0)
      (broadcastInDim S10000x31 ![] bcast_S_S10000x31 (constant S_ .f32 0x00000000#32)))
    (andi (cmpf .olt (extractStridedSlice S10000x31 ![0, 0] n slices_S10000x34_S10000x31_0_0)
        (broadcastInDim S10000x31 ![] bcast_S_S10000x31 (constant S_ .f32 0x40800000#32)))
      (cmpf .oge (extractStridedSlice S10000x31 ![0, 0] v slices_S10000x34_S10000x31_0_0)
        (broadcastInDim S10000x31 ![] bcast_S_S10000x31 (constant S_ .f32 0x0DA24260#32))))

/-- The precondition, of the listed values and the counts. -/
def condition (v n : FVec F S10000x34 .f32) : IVec S10000x31 1 :=
  andi (finds v n) (broadcastInDim S10000x31 ![0, 1] bcast_S10000x1_S10000x31_0_1 (broadcastInDim S10000x1 ![0] bcast_S10000_S10000x1_0 (cuts v n)))

/-- The listed values of the similarities. -/
def values (s : FVec F S10000x10000 .f32) : FVec F S10000x34 .f32 :=
  (Host.topK S10000x34 1 (FloatOps.cmpfTotal .gt) s sliceFits_S10000x10000_S10000x34).1

/-- The listed columns. -/
def columns (s : FVec F S10000x10000 .f32) : IVec S10000x34 32 :=
  (Host.topK S10000x34 1 (FloatOps.cmpfTotal .gt) s sliceFits_S10000x10000_S10000x34).2

/-- The precondition is that condition on the similarities' lists. -/
theorem fn_eq (x : FVec F S10000x256 .f32) (w0 w1 : FVec F S256 .f32) :
    fn x w0 w1 = condition (values (similar x w0 w1)) (aheads (classes (columns (similar x w0 w1)))) := by
  rfl

/-- Both bits are set exactly when their conjunction is. -/
theorem and_one (x y : BitVec 1) : IntOp.andi x y = 1#1 ↔ x = 1#1 ∧ y = 1#1 := by revert x y; decide

/-- One of the bits is set exactly when their disjunction is. -/
theorem or_one (x y : BitVec 1) : IntOp.ori x y = 1#1 ↔ x = 1#1 ∨ y = 1#1 := by revert x y; decide

/-- A bit made of a proposition is set exactly when the proposition holds. -/
theorem of_one (P : Prop) [Decidable P] : BitVec.ofBool (decide P) = 1#1 ↔ P := WordCmp.ofBool_decide_eq_one_iff P

/-- A sum of ones over the places whose bit is set is their number. -/
theorem sum_bits (c : Fin 34 → BitVec 1) (P : Fin 34 → Prop) [DecidablePred P] (h : ∀ b, c b = 1#1 ↔ P b) :
    (∑ b, Scalar.select (c b) (1 : EReal) 0) = (((Finset.univ.filter P).card : ℕ) : EReal) := by
  rw [← Finset.sum_boole]
  refine Finset.sum_congr rfl fun b _ => ?_
  by_cases hb : P b
  · rw [if_pos hb, (h b).mpr hb]
    rfl
  · rw [if_neg hb]
    have : c b = 0#1 := by
      have two : ∀ x : BitVec 1, x ≠ 1#1 → x = 0#1 := by decide
      exact two _ fun e => hb ((h b).mp e)
    rw [this]
    rfl

/-- The count of the places before one that are of its class. -/
theorem aheads_apply (q : IVec S10000x34 32) (i : Fin 10000) (a : Fin 34) :
    aheads (F := Ideal) q (ix2 i a)
      = (((Finset.univ.filter fun b : Fin 34 => b < a ∧ q (ix2 i b) = q (ix2 i a)).card : ℕ) : EReal) := by
  have h : aheads (F := Ideal) q (ix2 i a) = ∑ b : Fin 34, Scalar.select
      (IntOp.andi (IntOp.cmpi .eq (q (ix2 i a)) (q (ix2 i b))) (IntOp.cmpi .slt (BitVec.ofNat 32 b.val) (BitVec.ofNat 32 a.val)))
      (1 : EReal) 0 := by
    pointwise [aheads, fn_where, earlier]
  rw [h]
  refine sum_bits _ _ fun b => ?_
  rw [and_one, WordCmp.cmpi_eq_eq, of_one, WordCmp.cmpi_slt_ofNat_eq_one_iff (by omega) (by omega)]
  exact ⟨fun h => ⟨h.2, h.1.symm⟩, fun h => ⟨h.2.symm, h.1⟩⟩

/-- The mark of the repeats. -/
theorem repeats_apply (v : FVec Ideal S10000x34 .f32) (i : Fin 10000) (a : Fin 34) :
    repeats v (ix2 i a) = 1#1 ↔ ∃ b : Fin 34, b.val + 1 = a.val ∧ v (ix2 i a) = v (ix2 i b) := by
  pointwise [repeats]
  split
  · rename_i h
    exact ⟨fun e => absurd e (by decide), fun ⟨b, hb, _⟩ => absurd hb (by omega)⟩
  · rename_i h
    rw [of_one]
    have e1 : (⟨1 + (a.val - 1), by omega⟩ : Fin 34) = a := Fin.ext (by show 1 + (a.val - 1) = a.val; omega)
    rw [e1]
    refine ⟨fun e => ⟨⟨a.val - 1, by omega⟩, by show a.val - 1 + 1 = a.val; omega, e⟩, fun ⟨b, hb, e⟩ => ?_⟩
    have e2 : (⟨a.val - 1, by omega⟩ : Fin 34) = b := Fin.ext (by show a.val - 1 = b.val; omega)
    rw [e2]
    exact e

/-- The constants the counts are compared with. -/
theorem number (b : BitVec 32) (k : ℕ) (h : Ideal.ofBits .f32 b = ((k : ℝ) : EReal)) : Ideal.ofBits .f32 b = ((k : ℕ) : EReal) := by
  rw [h]
  rfl

/-- The constant two. -/
theorem bits_two : Ideal.ofBits .f32 0x40000000#32 = ((2 : ℕ) : EReal) := number _ _ (by
  simp [Ideal.ofBits, Ideal.ieee, -EReal.coe_mul]
  norm_num)

/-- The constant three. -/
theorem bits_three : Ideal.ofBits .f32 0x40400000#32 = ((3 : ℕ) : EReal) := number _ _ (by
  simp [Ideal.ofBits, Ideal.ieee, -EReal.coe_mul]
  norm_num)

/-- The constant four. -/
theorem bits_four : Ideal.ofBits .f32 0x40800000#32 = ((4 : ℕ) : EReal) := number _ _ (by
  simp [Ideal.ofBits, Ideal.ieee, -EReal.coe_mul]
  norm_num)

/-- The condition at an entry, the counts being whole numbers. -/
theorem condition_apply (v n : FVec Ideal S10000x34 .f32) (i : Fin 10000) (a : Fin 31) (k : Fin 34 → ℕ)
    (hn : ∀ a : Fin 34, n (ix2 i a) = (k a : EReal)) (h : condition v n (ix2 i a) = 1#1) :
    (v (ix2 i (a.castLE (by omega) : Fin 34)) ≤ 0 ∨ (k (a.castLE (by omega)) < 4 ∧ tiny ≤ v (ix2 i (a.castLE (by omega) : Fin 34))))
    ∧ (v (ix2 i (31 : Fin 34)) ≤ 0 ∨ (v (ix2 i (31 : Fin 34)) < v (ix2 i (30 : Fin 34))
      ∧ (Finset.univ.filter fun a : Fin 34 => 2 ≤ k a ∨ ∃ b : Fin 34, b.val + 1 = a.val ∧ v (ix2 i a) = v (ix2 i b)).card ≤ 3)) := by
  have hi : idles v n (ix1 i) = (((Finset.univ.filter fun a : Fin 34 =>
      2 ≤ k a ∨ ∃ b : Fin 34, b.val + 1 = a.val ∧ v (ix2 i a) = v (ix2 i b)).card : ℕ) : EReal) := by
    have e : idles v n (ix1 i) = ∑ a : Fin 34, Scalar.select
        (IntOp.ori (BitVec.ofBool (decide (Ideal.ofBits .f32 0x40000000#32 ≤ n (ix2 i a)))) (repeats v (ix2 i a))) (1 : EReal) 0 := by
      pointwise [idles, fn_where_0, idle]
    rw [e]
    refine sum_bits _ _ fun a => ?_
    rw [or_one, of_one, repeats_apply, hn, bits_two, EReal.natCast_le_iff]
  have hc : condition v n (ix2 i a)
      = IntOp.andi
        (IntOp.ori (BitVec.ofBool (decide (v (ix2 i (a.castLE (by omega) : Fin 34)) ≤ 0)))
          (IntOp.andi (BitVec.ofBool (decide (n (ix2 i (a.castLE (by omega) : Fin 34)) < Ideal.ofBits .f32 0x40800000#32)))
            (BitVec.ofBool (decide (tiny ≤ v (ix2 i (a.castLE (by omega) : Fin 34)))))))
        (IntOp.ori (BitVec.ofBool (decide (v (ix2 i (31 : Fin 34)) ≤ 0)))
          (IntOp.andi (BitVec.ofBool (decide (v (ix2 i (31 : Fin 34)) < v (ix2 i (30 : Fin 34)))))
            (BitVec.ofBool (decide (idles v n (ix1 i) ≤ Ideal.ofBits .f32 0x40400000#32))))) := by
    pointwise [condition, finds, cuts, listed30, listed31]
    rfl
  rw [hc, hi, hn, bits_three, bits_four] at h
  simp only [and_one, or_one, of_one, EReal.natCast_le_iff, EReal.natCast_lt_iff] at h
  exact h

/-- The classes of the listed columns agree exactly when the columns are in one class. -/
theorem class_iff (p : IVec S10000x34 32) (i : Fin 10000) (o : Fin 34 → Fin 10000)
    (hp : ∀ a : Fin 34, p (ix2 i a) = BitVec.ofNat 32 (o a).val) (a b : Fin 34) :
    classes p (ix2 i b) = classes p (ix2 i a) ↔ lane (o b) = lane (o a) := by
  have e (a : Fin 34) : classes p (ix2 i a) = BitVec.ofNat 32 ((o a).val % 128) := by
    pointwise [classes]
    rw [hp]
    exact Routing.remsi_word .host (by omega) (by decide) (by decide)
  rw [e, e]
  have hb := Nat.mod_lt (o b).val (show 0 < 128 by decide)
  have ha := Nat.mod_lt (o a).val (show 0 < 128 by decide)
  constructor
  · intro h
    have h' := congrArg BitVec.toNat h
    rw [BitVec.toNat_ofNat, BitVec.toNat_ofNat] at h'
    exact Fin.ext (show (o b).val % 128 = (o a).val % 128 by omega)
  · intro h
    exact congrArg (BitVec.ofNat 32) (congrArg Fin.val h)

/-- The first 34 places of a row's order. -/
def listing (s : FVec Ideal S10000x10000 .f32) (i : Fin 10000) (a : Fin 34) : Fin 10000 :=
  order (fun j => s (ix2 i j)) (a.castLE (by omega))

/-- What the precondition says of a row: each of its 31 greatest similarities is nonpositive, or at least the smallest
    value the kernel keeps and at most fourth of its class; and the next one is nonpositive, or less than the last of the
    31 with at most three of the 34 listed being third or later of their class or repeats. -/
theorem spread (s : FVec Ideal S10000x10000 .f32)
    (h : condition (values s) (aheads (classes (columns s))) = fun _ => 1#1) (i : Fin 10000) :
    (∀ a : Fin 34, a.val < 31 → s (ix2 i (listing s i a)) ≤ 0
      ∨ (ahead lane (listing s i) a < 4 ∧ tiny ≤ s (ix2 i (listing s i a))))
    ∧ (s (ix2 i (listing s i 31)) ≤ 0 ∨ (s (ix2 i (listing s i 31)) < s (ix2 i (listing s i 30))
      ∧ ∃ U : Finset (Fin 34), U.card ≤ 3 ∧ ∀ a, a ∉ U →
        ahead lane (listing s i) a < 2 ∧ ¬ Again (fun j => s (ix2 i j)) (listing s i) a)) := by
  have hv (a : Fin 34) : values s (ix2 i a) = s (ix2 i (listing s i a)) :=
    topK_values (K := 34) (by omega) s sliceFits_S10000x10000_S10000x34 i a
  have hp (a : Fin 34) : columns s (ix2 i a) = BitVec.ofNat 32 (listing s i a).val :=
    topK_indices (K := 34) (by omega) s sliceFits_S10000x10000_S10000x34 i a
  have hn (a : Fin 34) : aheads (F := Ideal) (classes (columns s)) (ix2 i a) = (ahead lane (listing s i) a : EReal) := by
    rw [aheads_apply]
    simp only [class_iff (columns s) i (listing s i) hp]
    rfl
  have all (a : Fin 31) := condition_apply _ _ i a (ahead lane (listing s i)) hn (congrFun h (ix2 i a))
  simp only [hv] at all
  refine ⟨fun a ha => (all ⟨a.val, ha⟩).1, ?_⟩
  rcases (all 0).2 with h | ⟨h1, h2⟩
  · exact Or.inl h
  · refine Or.inr ⟨h1, _, h2, fun a ha => ?_⟩
    rw [Finset.mem_filter, not_and] at ha
    have ha' := ha (Finset.mem_univ a)
    rw [not_or, not_le] at ha'
    exact ha'

end Cert.Proof.Spread

end
-- ==== Proof.Equal.lean ====
/-
  The equation: where the precondition holds, what the kernel leaves at each entry is what the reference leaves there.
  Both keep the similarity where the column is among the row's 31 greatest and the similarity is positive, and hold zero
  elsewhere.
-/
module

public import proofs.«01_k».proof.Proof.Chosen
public import proofs.«01_k».proof.Proof.Spread

@[expose] public section

set_option maxRecDepth 16384

noncomputable section

namespace Cert.Proof.Equal

open Idealize.ShloMosaic Idealize.ShloMosaic.TcCoe
open Cert.KernelIdeal Cert.KernelIdeal.Gen Cert.Proof.Block Cert.Proof.Whole Cert.Proof.Reading
open Cert.Proof.Similar Cert.Proof.Chosen Cert.Proof.Spread Cert.Proof.Top

variable [Cert.Pre_spread_rows.Facts]

/-- The threshold's start is the thirtieth step down from the greatest entry. -/
theorem threshold_apply (v : FVec Ideal S400x10000 .f32) (r : Fin 400) :
    shapeCast S1x400 (descend (two v) 30) shapeCasts_S400_S1x400 (ix2 0 r) = descend (two v) 30 (ix1 r) := by
  pointwise

/-- In a row of the block that carries a row of the similarities, the kernel keeps exactly the positive entries among the
    row's 31 greatest. -/
theorem kept (x : FVec Ideal S10000x256 .f32) (w0 w1 : FVec Ideal S256 .f32)
    (h : Cert.Pre_spread_rows.fn x w0 w1 = fun _ => 1#1) (v : FVec Ideal S400x10000 .f32) (r : Fin 400) (i : Fin 10000)
    (hv : ∀ j, v (ix2 r j) = similar x w0 w1 (ix2 i j)) (j : Fin 10000) :
    max (threshold v (ix2 0 r)) tiny ≤ v (ix2 r j)
      ↔ 0 < v (ix2 r j) ∧ ∃ a : Fin 34, a.val < 31 ∧ listing (similar x w0 w1) i a = j := by
  obtain ⟨found, cut⟩ := spread (similar x w0 w1) (by rw [← fn_eq]; exact h) i
  have e : sim v r = fun j => similar x w0 w1 (ix2 i j) := funext hv
  have hs (j : Fin 10000) : sim v r j = dotRows (rows x w0 w1) i j := (hv j).trans (similar_apply x w0 w1 i j)
  have hlo (j : Fin 10000) : lo < sim v r j := by rw [hs]; exact lo_lt_similar x w0 w1 i j
  have hhi (j : Fin 10000) : sim v r j < hi := by rw [hs]; exact similar_lt_hi x w0 w1 i j
  have hR : Rows.Ranks (sim v r) (listing (similar x w0 w1) i) := by
    rw [e]
    exact ranks _
  have h1 := moved v r (shapeCast S1x400 (descend (two v) 30) shapeCasts_S400_S1x400)
  rw [threshold_apply] at h1
  refine Rows.row (picks v r) hR (descends v r) h1 (moved v r _) (moved v r _) hlo hhi ((hlo j).trans (hhi j)) tiny_pos ?_ ?_ j
  · rw [e]
    exact found
  · rw [e]
    exact cut

/-- What the kernel leaves at an entry of a block is what the reference leaves at that entry of the array. -/
theorem entry (x : FVec Ideal S10000x256 .f32) (w0 w1 : FVec Ideal S256 .f32)
    (h : Cert.Pre_spread_rows.fn x w0 w1 = fun _ => 1#1) (t : Fin cfg1.N) (r : Fin 400) (j : Fin 10000) :
    result (blockSims (rows x w0 w1) (grid1.coords t)) (ix2 r j) = chosen (similar x w0 w1) (ix2 (rowIx (t.cast N_1) r) j) := by
  have hv (j : Fin 10000) : blockSims (rows x w0 w1) (grid1.coords t) (ix2 r j) = similar x w0 w1 (ix2 (rowIx (t.cast N_1) r) j) :=
    (blockSims_apply _ t r j).trans (similar_apply x w0 w1 _ j).symm
  have hk := kept x w0 w1 h _ r _ hv j
  have listed : (∃ a : Fin 34, a.val < 31 ∧ listing (similar x w0 w1) (rowIx (t.cast N_1) r) a = j)
      ↔ ∃ k : Fin 31, order (fun j => similar x w0 w1 (ix2 (rowIx (t.cast N_1) r) j)) (k.castLE (by omega)) = j :=
    ⟨fun ⟨a, ha, e⟩ => ⟨⟨a.val, ha⟩, e⟩, fun ⟨k, e⟩ => ⟨k.castLE (by omega), k.isLt, e⟩⟩
  rw [listed, hv] at hk
  rw [result_apply, chosen_apply, hv]
  by_cases hj : ∃ k : Fin 31, order (fun j => similar x w0 w1 (ix2 (rowIx (t.cast N_1) r) j)) (k.castLE (by omega)) = j
  · rw [if_pos hj]
    by_cases hp : 0 < similar x w0 w1 (ix2 (rowIx (t.cast N_1) r) j)
    · rw [if_pos (hk.mpr ⟨hp, hj⟩), max_eq_left hp.le]
    · rw [if_neg fun q => hp (hk.mp q).1, max_eq_right (not_lt.mp hp)]
  · rw [if_neg hj, if_neg fun q => hj (hk.mp q).2]

end Cert.Proof.Equal

end
-- ==== Proof.lean ====
/-
  The certificate: the kernel and its idealization run to completion and leave their arguments alone, so does the
  reference, the idealization is the kernel, and where `spread_rows` holds of the arguments the kernel's result is the
  reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_spread_rows
public import proofs.«01_k».proof.Proof.Equal
public import Idealize.ShloMosaic.Adequacy
public import Idealize.ShloMosaic.Init

@[expose] public section

noncomputable section

namespace Cert.Proof

open Idealize.ShloMosaic Idealize.SL.Sem

/-- The reference runs to completion and leaves its arguments and semaphores alone. -/
theorem frame_ri : Cert.quiescent_ReferenceIdeal (hReferenceIdeal := Cert.ReferenceIdeal.Gen.facts) := fun m ρ _ =>
  (θ_run Cert.ReferenceIdeal.defs _ _).mono (fun r h => ⟨fun c => ⟨(h c).2.1, (h c).2.2⟩,
      Idealize.ShloMosaic.sem_eq_zero_of_no_sems (by decide) r.2⟩)
    (Cert.ReferenceIdeal.Value.run (F := Ideal) m ρ)

/-- Where the arguments satisfy `spread_rows`, the kernel and the reference end with the same result. -/
theorem equal : Cert.algebraic_KernelIdeal_ReferenceIdeal_pre_spread_rows (hKernelIdeal := Cert.KernelIdeal.Gen.facts)
    (hReferenceIdeal := Cert.ReferenceIdeal.Gen.facts) (hPre_spread_rows := Cert.Pre_spread_rows.Gen.facts) := by
  intro m ρ m' ρ' hpre harg
  refine ⟨fun c => Chosen.chosen (F := Ideal) (Similar.similar (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))), ?_, ?_⟩
  · refine (θ_run Cert.KernelIdeal.defs _ _).mono (fun r h c => ⟨(h c).1.trans ?_, (h c).2⟩) (Whole.run (F := Ideal) m ρ)
    exact Whole.final1 m ρ c _ fun t r j => Equal.entry _ _ _ (hpre c) t r j
  · refine (θ_run Cert.ReferenceIdeal.defs _ _).mono (fun r h c => ⟨(h c).1.trans ?_, (h c).2⟩)
      (Cert.ReferenceIdeal.Value.run (F := Ideal) m' ρ')
    rw [Chosen.result_eq, (harg c).1, (harg c).2.1, (harg c).2.2]

/-- Every claim of the certificate. -/
theorem claim : Cert.Claim := ⟨Cert.Kernel.Gen.facts, Cert.KernelIdeal.Gen.facts, Cert.ReferenceIdeal.Gen.facts, Cert.Pre_spread_rows.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, equal⟩

end Cert.Proof

end
